-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x1x1024 : Shape := ⟨3, ![8, 1, 1024]⟩
abbrev S1x65536x1024 : Shape := ⟨3, ![1, 65536, 1024]⟩
abbrev S1024 : Shape := ⟨1, ![1024]⟩
abbrev S1024x1024 : Shape := ⟨2, ![1024, 1024]⟩
abbrev S_ : Shape := ⟨0, ![]⟩

class Facts : Prop where
  bcast_S_S1x65536x1024 : S_.BroadcastsInDim S1x65536x1024 (![] : Fin 0 → Fin S1x65536x1024.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn {F : FTy → Type} [FloatOps F] (main_arg0 : FVec F S8x1x1024 .f32) (main_arg1 : FVec F S1x65536x1024 .f32) (main_arg2 : FVec F S1024 .f32) (main_arg3 : FVec F S1024 .f32) (main_arg4 : FVec F S1024x1024 .f32) (main_arg5 : FVec F S1024 .f32) (main_arg6 : FVec F S1024x1024 .f32) (main_arg7 : FVec F S1024 .f32) : IVec S1x65536x1024 1 × IVec S1024 1 × IVec S1024 1 × IVec S1024x1024 1 × IVec S1024 1 :=
  let main_v0 : FVec F S1x65536x1024 .f32 := Host.absf main_arg1
  let main_cst : FVec F S_ .f32 := constant S_ .f32 0x7F800000#32
  let main_v1 : FVec F S1x65536x1024 .f32 := broadcastInDim S1x65536x1024 ![] bcast_S_S1x65536x1024 main_cst
  let main_v2 : IVec S1x65536x1024 1 := cmpf .olt main_v0 main_v1
  let main_v3 : FVec F S1024 .f32 := Host.absf main_arg2
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg3
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x1024 .f32 := Host.absf main_arg4
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S1024 .f32 := Host.absf main_arg5
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  (main_v2, main_v5, main_v8, main_v11, main_v14)
-- ==== Kernel.lean ====
abbrev S8x1x1024 : Shape := ⟨3, ![8, 1, 1024]⟩
abbrev S1x65536x1024 : Shape := ⟨3, ![1, 65536, 1024]⟩
abbrev S1024 : Shape := ⟨1, ![1024]⟩
abbrev S1024x1024 : Shape := ⟨2, ![1024, 1024]⟩
abbrev S8x1024 : Shape := ⟨2, ![8, 1024]⟩
abbrev S65536x1024 : Shape := ⟨2, ![65536, 1024]⟩
abbrev S4096x1024 : Shape := ⟨2, ![4096, 1024]⟩
abbrev S8x1 : Shape := ⟨2, ![8, 1]⟩
abbrev S8 : Shape := ⟨1, ![8]⟩
abbrev S1x1024 : Shape := ⟨2, ![1, 1024]⟩
abbrev S8x4096 : Shape := ⟨2, ![8, 4096]⟩

abbrev nBuf : Space → Nat
  | .hbm => 12
  | .vmem => 14
  | .smem => 0
  | _ => 0

abbrev bufTy : (tb : Table) → Fin (tcTables nBuf tb) → BufTy
  | .hbm, ⟨0, _⟩ => ⟨S8x1x1024, .f32⟩
  | .hbm, ⟨1, _⟩ => ⟨S1x65536x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S8x1024, .f32⟩
  | .hbm, ⟨9, _⟩ => ⟨S65536x1024, .f32⟩
  | .hbm, ⟨10, _⟩ => ⟨S8x1024, .f32⟩
  | .hbm, ⟨11, _⟩ => ⟨S8x1x1024, .f32⟩
  | .local _ .vmem, ⟨0, _⟩ => ⟨S8x1024, .f32⟩
  | .local _ .vmem, ⟨1, _⟩ => ⟨S4096x1024, .f32⟩
  | .local _ .vmem, ⟨2, _⟩ => ⟨S4096x1024, .f32⟩
  | .local _ .vmem, ⟨3, _⟩ => ⟨S1024, .f32⟩
  | .local _ .vmem, ⟨4, _⟩ => ⟨S1024, .f32⟩
  | .local _ .vmem, ⟨5, _⟩ => ⟨S1024x1024, .f32⟩
  | .local _ .vmem, ⟨6, _⟩ => ⟨S1024, .f32⟩
  | .local _ .vmem, ⟨7, _⟩ => ⟨S1024x1024, .f32⟩
  | .local _ .vmem, ⟨8, _⟩ => ⟨S1024, .f32⟩
  | .local _ .vmem, ⟨9, _⟩ => ⟨S8x1024, .f32⟩
  | .local _ .vmem, ⟨10, _⟩ => ⟨S8x1024, .f32⟩
  | .local _ .vmem, ⟨11, _⟩ => ⟨S8x1, .f32⟩
  | .local _ .vmem, ⟨12, _⟩ => ⟨S8x1, .f32⟩
  | .local _ .vmem, ⟨13, _⟩ => ⟨S8x1024, .f32⟩
  | _, _ => ⟨S8x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v35 : BitVec 1 := Scalar.cmpi .eq arg0 c15_i32
  let v36 : BitVec 32 := Scalar.extui v35
  let c0_i32_19 : BitVec 32 := 0#32
  let v37 : BitVec 1 := Scalar.cmpi .ne v36 c0_i32_19
  v37

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S8x1x1024 : Shape := ⟨3, ![8, 1, 1024]⟩
abbrev S1x65536x1024 : Shape := ⟨3, ![1, 65536, 1024]⟩
abbrev S1024 : Shape := ⟨1, ![1024]⟩
abbrev S1024x1024 : Shape := ⟨2, ![1024, 1024]⟩
abbrev S_ : Shape := ⟨0, ![]⟩
abbrev S8x1 : Shape := ⟨2, ![8, 1]⟩
abbrev S8x1x1 : Shape := ⟨3, ![8, 1, 1]⟩
abbrev S1x1x1024 : Shape := ⟨3, ![1, 1, 1024]⟩
abbrev S65536x1024 : Shape := ⟨2, ![65536, 1024]⟩
abbrev S8x1x65536 : Shape := ⟨3, ![8, 1, 65536]⟩
abbrev S8 : Shape := ⟨1, ![8]⟩

abbrev nBuf : Space → Nat
  | .hbm => 169
  | .vmem => 0
  | .smem => 0
  | _ => 0

abbrev hbmTy0_0 (i : Nat) : BufTy := match i % 128 with
  | 0 => ⟨S8x1x1024, .f32⟩
  | 1 => ⟨S1x65536x1024, .f32⟩
  | 2 => ⟨S1024, .f32⟩
  | 3 => ⟨S1024, .f32⟩
  | 4 => ⟨S1024x1024, .f32⟩
  | 5 => ⟨S1024, .f32⟩
  | 6 => ⟨S1024x1024, .f32⟩
  | 7 => ⟨S1024, .f32⟩
  | 8 => ⟨S_, .f32⟩
  | 9 => ⟨S8x1, .f32⟩
  | 10 => ⟨S8x1x1, .f32⟩
  | 11 => ⟨S_, .f32⟩
  | 12 => ⟨S8x1x1, .f32⟩
  | 13 => ⟨S8x1x1, .f32⟩
  | 14 => ⟨S_, .i32⟩
  | 15 => ⟨S_, .f32⟩
  | 16 => ⟨S8x1, .f32⟩
  | 17 => ⟨S8x1x1, .f32⟩
  | 18 => ⟨S_, .f32⟩
  | 19 => ⟨S8x1x1, .f32⟩
  | 20 => ⟨S8x1x1, .f32⟩
  | 21 => ⟨S8x1x1024, .f32⟩
  | 22 => ⟨S8x1x1024, .f32⟩
  | 23 => ⟨S8x1x1024, .f32⟩
  | 24 => ⟨S_, .f32⟩
  | 25 => ⟨S_, .f32⟩
  | 26 => ⟨S_, .f32⟩
  | 27 => ⟨S_, .f32⟩
  | 28 => ⟨S8x1, .f32⟩
  | 29 => ⟨S8x1x1, .f32⟩
  | 30 => ⟨S8x1x1, .f32⟩
  | 31 => ⟨S8x1x1, .f32⟩
  | 32 => ⟨S_, .f32⟩
  | 33 => ⟨S_, .i1⟩
  | 34 => ⟨S_, .f32⟩
  | 35 => ⟨S_, .f32⟩
  | 36 => ⟨S8x1x1, .f32⟩
  | 37 => ⟨S8x1x1, .f32⟩
  | 38 => ⟨S8x1x1024, .f32⟩
  | 39 => ⟨S8x1x1024, .f32⟩
  | 40 => ⟨S_, .f32⟩
  | 41 => ⟨S8x1x1, .f32⟩
  | 42 => ⟨S8x1x1, .f32⟩
  | 43 => ⟨S8x1x1, .f32⟩
  | 44 => ⟨S8x1x1024, .f32⟩
  | 45 => ⟨S8x1x1024, .f32⟩
  | 46 => ⟨S1x1x1024, .f32⟩
  | 47 => ⟨S8x1x1024, .f32⟩
  | 48 => ⟨S8x1x1024, .f32⟩
  | 49 => ⟨S1x1x1024, .f32⟩
  | 50 => ⟨S8x1x1024, .f32⟩
  | 51 => ⟨S8x1x1024, .f32⟩
  | 52 => ⟨S1024x1024, .f32⟩
  | 53 => ⟨S8x1x1024, .f32⟩
  | 54 => ⟨S1x1x1024, .f32⟩
  | 55 => ⟨S8x1x1024, .f32⟩
  | 56 => ⟨S8x1x1024, .f32⟩
  | 57 => ⟨S65536x1024, .f32⟩
  | 58 => ⟨S8x1x65536, .f32⟩
  | 59 => ⟨S_, .f32⟩
  | 60 => ⟨S8x1, .f32⟩
  | 61 => ⟨S8x1x1, .f32⟩
  | 62 => ⟨S8x1x65536, .f32⟩
  | 63 => ⟨S8x1x65536, .i1⟩
  | 64 => ⟨S8x1x65536, .f32⟩
  | 65 => ⟨S_, .f32⟩
  | 66 => ⟨S8x1, .f32⟩
  | 67 => ⟨S_, .f32⟩
  | 68 => ⟨S8x1, .f32⟩
  | 69 => ⟨S8x1, .f32⟩
  | 70 => ⟨S_, .f32⟩
  | 71 => ⟨S8x1, .f32⟩
  | 72 => ⟨S8x1, .i1⟩
  | 73 => ⟨S_, .f32⟩
  | 74 => ⟨S8x1, .f32⟩
  | 75 => ⟨S8x1, .i1⟩
  | 76 => ⟨S_, .f32⟩
  | 77 => ⟨S8x1, .f32⟩
  | 78 => ⟨S_, .f32⟩
  | 79 => ⟨S8x1, .f32⟩
  | 80 => ⟨S_, .f32⟩
  | 81 => ⟨S8x1, .f32⟩
  | 82 => ⟨S8x1, .f32⟩
  | 83 => ⟨S8x1, .f32⟩
  | 84 => ⟨S8x1x1, .f32⟩
  | 85 => ⟨S8x1x65536, .f32⟩
  | 86 => ⟨S8x1x65536, .f32⟩
  | 87 => ⟨S8x1x65536, .f32⟩
  | 88 => ⟨S_, .f32⟩
  | 89 => ⟨S8x1, .f32⟩
  | 90 => ⟨S8x1x1, .f32⟩
  | 91 => ⟨S8x1x65536, .f32⟩
  | 92 => ⟨S8x1x65536, .f32⟩
  | 93 => ⟨S8x1x1, .f32⟩
  | 94 => ⟨S_, .f32⟩
  | 95 => ⟨S8x1x1, .f32⟩
  | 96 => ⟨S8x1x1, .f32⟩
  | 97 => ⟨S65536x1024, .f32⟩
  | 98 => ⟨S8x1x1024, .f32⟩
  | 99 => ⟨S8x1x1024, .f32⟩
  | 100 => ⟨S8x1x1024, .f32⟩
  | 101 => ⟨S_, .f32⟩
  | 102 => ⟨S8x1x1024, .f32⟩
  | 103 => ⟨S8x1x1024, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S8x1x1024, .f32⟩
  | 112 => ⟨S8x1x1024, .f32⟩
  | 113 => ⟨S8x1x1024, .f32⟩
  | 114 => ⟨S8x1x65536, .f32⟩
  | 115 => ⟨S8x1x65536, .f32⟩
  | 116 => ⟨S8x1x65536, .f32⟩
  | 117 => ⟨S8x1x65536, .f32⟩
  | 118 => ⟨S_, .f32⟩
  | 119 => ⟨S8x1, .f32⟩
  | 120 => ⟨S8x1x1, .f32⟩
  | 121 => ⟨S8x1x1, .f32⟩
  | 122 => ⟨S8x1x65536, .f32⟩
  | 123 => ⟨S8x1x65536, .f32⟩
  | 124 => ⟨S_, .f32⟩
  | 125 => ⟨S8, .f32⟩
  | 126 => ⟨S8x1, .f32⟩
  | 127 => ⟨S8x1x65536, .f32⟩
  | _ => ⟨S8x1x1024, .f32⟩

abbrev hbmTy0_1 (i : Nat) : BufTy := match i % 128 with
  | 0 => ⟨S8x1x65536, .f32⟩
  | 1 => ⟨S8x1x65536, .f32⟩
  | 2 => ⟨S8x1x1024, .f32⟩
  | 3 => ⟨S8x1x1024, .f32⟩
  | 4 => ⟨S8x1x1024, .f32⟩
  | 5 => ⟨S8x1x1024, .f32⟩
  | 6 => ⟨S_, .f32⟩
  | 7 => ⟨S8x1, .f32⟩
  | 8 => ⟨S8x1x1, .f32⟩
  | 9 => ⟨S_, .f32⟩
  | 10 => ⟨S8x1x1, .f32⟩
  | 11 => ⟨S8x1x1, .f32⟩
  | 12 => ⟨S1024x1024, .f32⟩
  | 13 => ⟨S8x1x1024, .f32⟩
  | 14 => ⟨S1x1x1024, .f32⟩
  | 15 => ⟨S8x1x1024, .f32⟩
  | 16 => ⟨S8x1x1024, .f32⟩
  | 17 => ⟨S65536x1024, .f32⟩
  | 18 => ⟨S8x1x65536, .f32⟩
  | 19 => ⟨S_, .f32⟩
  | 20 => ⟨S8x1, .f32⟩
  | 21 => ⟨S_, .f32⟩
  | 22 => ⟨S8x1, .f32⟩
  | 23 => ⟨S8x1, .f32⟩
  | 24 => ⟨S8x1x1, .f32⟩
  | 25 => ⟨S8x1x65536, .f32⟩
  | 26 => ⟨S8x1x65536, .f32⟩
  | 27 => ⟨S8x1x65536, .f32⟩
  | 28 => ⟨S_, .f32⟩
  | 29 => ⟨S8x1, .f32⟩
  | 30 => ⟨S8x1x1, .f32⟩
  | 31 => ⟨S8x1x65536, .f32⟩
  | 32 => ⟨S8x1x65536, .f32⟩
  | 33 => ⟨S65536x1024, .f32⟩
  | 34 => ⟨S8x1x1024, .f32⟩
  | 35 => ⟨S1024x1024, .f32⟩
  | 36 => ⟨S8x1x1024, .f32⟩
  | 37 => ⟨S1x1x1024, .f32⟩
  | 38 => ⟨S8x1x1024, .f32⟩
  | 39 => ⟨S8x1x1024, .f32⟩
  | 40 => ⟨S8x1x1024, .f32⟩
  | _ => ⟨S8x1x1024, .f32⟩

abbrev hbmTy (i : Nat) : BufTy := match i / 128 with
  | 0 => hbmTy0_0 i
  | 1 => hbmTy0_1 i
  | _ => ⟨S8x1x1024, .f32⟩

abbrev bufTy : (tb : Table) → Fin (tcTables nBuf tb) → BufTy
  | .hbm, ⟨i, _⟩ => hbmTy i
  | _, _ => ⟨S8x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_cst_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_cst_2 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_cst_3 : Ref sig .tc := ⟨.hbm, 32, rfl⟩
abbrev main_call0_v13 : Ref sig .tc := ⟨.hbm, 33, rfl⟩
abbrev main_call0_cst_4 : Ref sig .tc := ⟨.hbm, 34, rfl⟩
abbrev main_call0_call0_v0 : Ref sig .tc := ⟨.hbm, 35, rfl⟩
abbrev main_call0_call0_v1 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_cst_1 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_2 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_cst_3 : Ref sig .tc := ⟨.hbm, 65, rfl⟩
abbrev main_v30 : Ref sig .tc := ⟨.hbm, 66, rfl⟩
abbrev main_cst_4 : Ref sig .tc := ⟨.hbm, 67, rfl⟩
abbrev main_v31 : Ref sig .tc := ⟨.hbm, 68, rfl⟩
abbrev main_v32 : Ref sig .tc := ⟨.hbm, 69, rfl⟩
abbrev main_cst_5 : Ref sig .tc := ⟨.hbm, 70, rfl⟩
abbrev main_v33 : Ref sig .tc := ⟨.hbm, 71, rfl⟩
abbrev main_v34 : Ref sig .tc := ⟨.hbm, 72, rfl⟩
abbrev main_cst_6 : Ref sig .tc := ⟨.hbm, 73, rfl⟩
abbrev main_v35 : Ref sig .tc := ⟨.hbm, 74, rfl⟩
abbrev main_v36 : Ref sig .tc := ⟨.hbm, 75, rfl⟩
abbrev main_cst_7 : Ref sig .tc := ⟨.hbm, 76, rfl⟩
abbrev main_v37 : Ref sig .tc := ⟨.hbm, 77, rfl⟩
abbrev main_cst_8 : Ref sig .tc := ⟨.hbm, 78, rfl⟩
abbrev main_v38 : Ref sig .tc := ⟨.hbm, 79, rfl⟩
abbrev main_cst_9 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_cst_10 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_cst_11 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_cst_12 : Ref sig .tc := ⟨.hbm, 101, rfl⟩
abbrev main_v57 : Ref sig .tc := ⟨.hbm, 102, rfl⟩
abbrev main_v58 : Ref sig .tc := ⟨.hbm, 103, rfl⟩
abbrev main_cst_13 : Ref sig .tc := ⟨.hbm, 104, rfl⟩
abbrev main_v59 : Ref sig .tc := ⟨.hbm, 105, rfl⟩
abbrev main_cst_14 : Ref sig .tc := ⟨.hbm, 106, rfl⟩
abbrev main_v60 : Ref sig .tc := ⟨.hbm, 107, rfl⟩
abbrev main_cst_15 : Ref sig .tc := ⟨.hbm, 108, rfl⟩
abbrev main_cst_16 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_cst_17 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_cst_18 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_cst_19 : Ref sig .tc := ⟨.hbm, 134, rfl⟩
abbrev main_v83 : Ref sig .tc := ⟨.hbm, 135, rfl⟩
abbrev main_v84 : Ref sig .tc := ⟨.hbm, 136, rfl⟩
abbrev main_cst_20 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_cst_21 : Ref sig .tc := ⟨.hbm, 147, rfl⟩
abbrev main_v94 : Ref sig .tc := ⟨.hbm, 148, rfl⟩
abbrev main_cst_22 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_cst_23 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩

abbrev nD : Nat := 1
abbrev τ : Topo := Topo.v7x

variable {F : FTy → Type} [FloatOps F]
-- ==== Proof.Softmax.lean ====
/-
  The arithmetic behind a softmax taken tile by tile, over the extended reals. A tile's scores are real numbers. The
  running maximum starts at minus infinity and is a real number after the first tile; whatever real number `M` it is,
  the running sum is `exp (-M)` times the sum of `exp` over the scores taken in so far, and each weighted sum is `exp (-M)`
  times the sum of `exp` of the score times the weight. Their quotient does not depend on `M`: it is what the softmax of
  the whole row gives.
-/
module

public import Idealize.ShloMosaic.PureOps.Ideal.Laws

@[expose] public section

noncomputable section

namespace Cert.Softmax

open Idealize.ShloMosaic
open scoped BigOperators

/-- The word of minus infinity. -/
theorem word_bot : Ideal.ofBits .f32 0xFF800000#32 = (⊥ : EReal) := by simp [Ideal.ofBits, Ideal.ieee]

/-- A finite sum of real numbers, taken over the extended reals, is the real sum. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum, from minus infinity, of real numbers is minus infinity or a real number. -/
theorem fold_max_bot_or {ι : Type} (s : Finset ι) (f : ι → ℝ) :
    (s.fold max (⊥ : EReal) fun i => ((f i : ℝ) : EReal)) = ⊥
      ∨ ∃ M : ℝ, (s.fold max (⊥ : EReal) fun i => ((f i : ℝ) : EReal)) = (M : EReal) := by
  classical
  induction s using Finset.induction_on with
  | empty => exact Or.inl (by simp)
  | insert a s ha ih =>
    refine Or.inr ?_
    rw [Finset.fold_insert ha]
    rcases ih with h | ⟨M, h⟩
    · exact ⟨f a, by rw [h, max_bot_right]⟩
    · exact ⟨max (f a) M, by rw [h]; exact (EReal.coe_strictMono.monotone.map_max).symm⟩

/-- Over a nonempty index it is a real number. -/
theorem fold_max_real {n : ℕ} (f : Fin (n + 1) → ℝ) :
    ∃ M : ℝ, ((Finset.univ : Finset (Fin (n + 1))).fold max (⊥ : EReal) fun i => ((f i : ℝ) : EReal)) = (M : EReal) := by
  classical
  rw [← Finset.insert_erase (Finset.mem_univ (0 : Fin (n + 1))), Finset.fold_insert (Finset.notMem_erase _ _)]
  rcases fold_max_bot_or (Finset.univ.erase (0 : Fin (n + 1))) f with h | ⟨M, h⟩
  · exact ⟨f 0, by rw [h, max_bot_right]⟩
  · exact ⟨max (f 0) M, by rw [h]; exact (EReal.coe_strictMono.monotone.map_max).symm⟩

/-- `exp` of a difference of real numbers. -/
theorem exp_sub (a b : ℝ) : Ideal.exp ((a : EReal) - (b : EReal)) = ((Real.exp a * Real.exp (-b) : ℝ) : EReal) := by
  rw [← EReal.coe_sub, Ideal.exp_coe, sub_eq_add_neg, Real.exp_add]

/-- The running maximum `mx` and a running sum `s`, when the weighted exponentials taken in so far add up to `S`: nothing
    taken in, or the maximum a real number `M` and the sum `exp (-M) * S`. -/
def Held (mx s : EReal) (S : ℝ) : Prop :=
  (mx = ⊥ ∧ s = 0 ∧ S = 0) ∨ ∃ M : ℝ, mx = (M : EReal) ∧ s = ((Real.exp (-M) * S : ℝ) : EReal)

/-- Before the first tile. -/
theorem held_start : Held ⊥ 0 0 := Or.inl ⟨rfl, rfl, rfl⟩

/-- The running maximum after one more nonempty tile is a real number. -/
theorem max_step {n : ℕ} {mx s : EReal} {S : ℝ} (h : Held mx s S) (σ : Fin (n + 1) → ℝ) :
    ∃ M : ℝ, max mx ((Finset.univ : Finset (Fin (n + 1))).fold max (⊥ : EReal) fun i => ((σ i : ℝ) : EReal)) = (M : EReal) := by
  obtain ⟨T, hT⟩ := fold_max_real σ
  rw [hT]
  rcases h with ⟨h, -, -⟩ | ⟨M, h, -⟩
  · exact ⟨T, by rw [h, max_bot_left]⟩
  · exact ⟨max M T, by rw [h]; exact (EReal.coe_strictMono.monotone.map_max).symm⟩

/-- The old sum, rescaled to the new maximum. -/
theorem rescale {mx s : EReal} {S : ℝ} (h : Held mx s S) (M : ℝ) :
    s * Ideal.exp (mx - (M : EReal)) = ((Real.exp (-M) * S : ℝ) : EReal) := by
  rcases h with ⟨hm, hs, hS⟩ | ⟨M₀, hm, hs⟩
  · rw [hs, hS, zero_mul, mul_zero, EReal.coe_zero]
  · rw [hm, hs, exp_sub, ← EReal.coe_mul]
    refine congrArg _ ?_
    have : Real.exp (-M₀) * Real.exp M₀ = 1 := by rw [← Real.exp_add, neg_add_cancel, Real.exp_zero]
    calc Real.exp (-M₀) * S * (Real.exp M₀ * Real.exp (-M))
        = (Real.exp (-M₀) * Real.exp M₀) * (Real.exp (-M) * S) := by ring
      _ = Real.exp (-M) * S := by rw [this, one_mul]

/-- The running sum after one more tile. -/
theorem sum_step {n : ℕ} {mx s : EReal} {S : ℝ} (h : Held mx s S) (σ : Fin n → ℝ) (M : ℝ) :
    s * Ideal.exp (mx - (M : EReal)) + ∑ i, Ideal.exp (((σ i : ℝ) : EReal) - (M : EReal))
      = ((Real.exp (-M) * (S + ∑ i, Real.exp (σ i)) : ℝ) : EReal) := by
  rw [rescale h, Finset.sum_congr rfl fun i _ => exp_sub (σ i) M, sum_coe, ← EReal.coe_add]
  refine congrArg _ ?_
  rw [mul_add, ← Finset.sum_mul, mul_comm (∑ i, Real.exp (σ i))]

/-- A weighted sum after one more tile. -/
theorem weighted_step {n : ℕ} {mx s : EReal} {S : ℝ} (h : Held mx s S) (σ μ : Fin n → ℝ) (M : ℝ) :
    s * Ideal.exp (mx - (M : EReal)) + ∑ i, Ideal.exp (((σ i : ℝ) : EReal) - (M : EReal)) * ((μ i : ℝ) : EReal)
      = ((Real.exp (-M) * (S + ∑ i, Real.exp (σ i) * μ i) : ℝ) : EReal) := by
  have e : ∀ i, Ideal.exp (((σ i : ℝ) : EReal) - (M : EReal)) * ((μ i : ℝ) : EReal)
      = ((Real.exp (-M) * (Real.exp (σ i) * μ i) : ℝ) : EReal) := fun i => by
    rw [exp_sub, ← EReal.coe_mul]; exact congrArg _ (by ring)
  rw [rescale h, Finset.sum_congr rfl fun i _ => e i, sum_coe, ← EReal.coe_add, mul_add, ← Finset.mul_sum]

/-- Division of one real number by another that is not zero. -/
theorem div_real (x : ℝ) {y : ℝ} (h : y ≠ 0) : Ideal.div (x : EReal) (y : EReal) = ((x / y : ℝ) : EReal) := by
  rw [Ideal.div_coe h, ← EReal.coe_mul, mul_one_div]

/-- The quotient the kernel ends with. -/
theorem quotient_kernel (M W : ℝ) {S : ℝ} (hS : 0 < S) :
    Ideal.div ((Real.exp (-M) * W : ℝ) : EReal) ((Real.exp (-M) * S : ℝ) : EReal) = ((W / S : ℝ) : EReal) := by
  have hM := Real.exp_pos (-M)
  rw [div_real _ (mul_pos hM hS).ne']
  exact congrArg _ (mul_div_mul_left W S hM.ne')

/-- The softmax of a whole row, shifted by any real number `M`, paired with weights. -/
theorem softmax_row {n : ℕ} (σ μ : Fin n → ℝ) (M : ℝ) (hS : 0 < ∑ i, Real.exp (σ i)) :
    ∑ i, Ideal.div (Ideal.exp (((σ i : ℝ) : EReal) - (M : EReal))) (∑ k, Ideal.exp (((σ k : ℝ) : EReal) - (M : EReal)))
        * ((μ i : ℝ) : EReal)
      = (((∑ i, Real.exp (σ i) * μ i) / (∑ i, Real.exp (σ i)) : ℝ) : EReal) := by
  have hM := Real.exp_pos (-M)
  rw [Finset.sum_congr rfl (fun k _ => exp_sub (σ k) M), sum_coe, ← Finset.sum_mul,
    mul_comm (∑ i, Real.exp (σ i))]
  have e : ∀ i, Ideal.div (Ideal.exp (((σ i : ℝ) : EReal) - (M : EReal))) ((Real.exp (-M) * ∑ i, Real.exp (σ i) : ℝ) : EReal)
      * ((μ i : ℝ) : EReal) = ((Real.exp (σ i) * μ i / (∑ i, Real.exp (σ i)) : ℝ) : EReal) := fun i => by
    rw [exp_sub, mul_comm (Real.exp (σ i)), quotient_kernel M (Real.exp (σ i)) hS, ← EReal.coe_mul]
    exact congrArg _ (by ring)
  rw [Finset.sum_congr rfl fun i _ => e i, sum_coe, Finset.sum_div]

end Cert.Softmax

end
-- ==== Proof.Rows.lean ====
/-
  What one row of the batch computes, as plain sums over the extended reals, and how the printed vector operations read
  at one element: a column spread over a row, the sum and the maximum along a row, and the two kinds of matrix product.
-/
module

public import proofs.«01_k».proof.Proof.Softmax
public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.Lib.MatmulPlain

@[expose] public section

noncomputable section

namespace Cert.Rows

open Idealize.ShloMosaic Idealize.ShloMosaic.ValueIdx
open scoped BigOperators

/-! ## One row -/

/-- The row's length, as the program's constant. -/
def len : EReal := Ideal.ofBits .f32 0x44800000#32
/-- The small number added to the variance, as the program's constant. -/
def eps : EReal := Ideal.ofBits .f32 0x2B8CBCCC#32

/-- A row's mean. -/
def mean (x : Fin 1024 → EReal) : EReal := Ideal.div (∑ k, x k) len
/-- A row's variance. -/
def variance (x : Fin 1024 → EReal) : EReal := Ideal.div (∑ k, (x k - mean x) * (x k - mean x)) len
/-- A row centred and divided by its deviation. -/
def standard (x : Fin 1024 → EReal) (h : Fin 1024) : EReal :=
  Ideal.div (x h - mean x) (Ideal.sqrt (variance x + eps))
/-- The row's query: its standard form scaled and shifted, projected, and shifted again. -/
def query (x g b : Fin 1024 → EReal) (W : Fin 1024 → Fin 1024 → EReal) (c : Fin 1024 → EReal) (j : Fin 1024) : EReal :=
  (∑ h, (standard x h * g h + b h) * W j h) + c j
/-- The score of one memory row against a query. -/
def score (q μ : Fin 1024 → EReal) : EReal := ∑ h, q h * μ h

/-! ## Reading the vector operations -/

variable {α : Type}

/-- One column spread over a row's length. -/
theorem spread_col {a n : ℕ} (v : (⟨2, ![a, 1]⟩ : Shape).Idx → α) (h : (⟨2, ![a, 1]⟩ : Shape).Broadcasts ⟨2, ![a, n]⟩)
    (p : Fin a) (c : Fin n) : broadcastTo ⟨2, ![a, n]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index of a row with the coordinate put back. -/
theorem lift_row {a n : ℕ} (h : (⟨2, ![a, n]⟩ : Shape).Reduces [1] ⟨1, ![a]⟩) (p : Fin a) (k : Fin n) :
    h.lift (ix1 p) k = ix2 p k := by
  funext ax; apply Fin.ext
  fin_cases ax <;> rfl

/-- The sum along a row. -/
theorem row_sum {a n : ℕ} (x : FVec Ideal ⟨2, ![a, n]⟩ .f32) (acc : BitVec 32)
    (h : (⟨2, ![a, n]⟩ : Shape).Reduces [1] ⟨1, ![a]⟩) (hφ : FKind.Formats .f32) (hacc : acc = FKind.add.neutral .f32 hφ)
    (p : Fin a) : multiReduction .add [1] ⟨1, ![a]⟩ x acc h hφ hacc (ix1 p) = ∑ k : Fin n, x (ix2 p k) :=
  (Ideal.multiReduction_add_single x acc h hφ hacc (ix1 p)).trans
    (Finset.sum_congr rfl fun k _ => congrArg x (lift_row h p k))

/-- The maximum along a row. -/
theorem row_max {a n : ℕ} (x : FVec Ideal ⟨2, ![a, n]⟩ .f32) (acc : BitVec 32)
    (h : (⟨2, ![a, n]⟩ : Shape).Reduces [1] ⟨1, ![a]⟩) (hφ : FKind.Formats .f32)
    (hacc : acc = FKind.maximumf.neutral .f32 hφ) (p : Fin a) :
    multiReduction .maximumf [1] ⟨1, ![a]⟩ x acc h hφ hacc (ix1 p)
      = (Finset.univ : Finset (Fin n)).fold max (Ideal.ofBits .f32 acc) fun k => x (ix2 p k) :=
  (Ideal.multiReduction_maximumf_single x acc h hφ hacc (ix1 p)).trans
    (congrArg (Finset.fold max _ · Finset.univ) (funext fun k => congrArg x (lift_row h p k)))

/-- A product with the right operand's rows, from zero. -/
theorem dot_rows {M K N : ℕ} (D : DotDims ⟨2, ![M, K]⟩ ⟨2, ![N, K]⟩ ⟨2, ![M, N]⟩) (hD : D = DotDims.transposedRhs M K N)
    (x : FVec Ideal ⟨2, ![M, K]⟩ .f32) (y : FVec Ideal ⟨2, ![N, K]⟩ .f32) (r : Fin M) (c : Fin N) :
    matmul D none x y (constant ⟨2, ![M, N]⟩ .f32 0x00000000#32) (ix2 r c) = ∑ k : Fin K, x (ix2 r k) * y (ix2 c k) := by
  subst hD
  refine (Ideal.matmul_transposedRhs_apply none x y _ r c).trans ?_
  rw [constant_apply, Ideal.ofBits_zero_f32, zero_add]

/-- A product with the right operand's columns, from zero. -/
theorem dot_cols {M K N : ℕ} (D : DotDims ⟨2, ![M, K]⟩ ⟨2, ![K, N]⟩ ⟨2, ![M, N]⟩) (hD : D = DotDims.plain M K N)
    (x : FVec Ideal ⟨2, ![M, K]⟩ .f32) (y : FVec Ideal ⟨2, ![K, N]⟩ .f32) (r : Fin M) (c : Fin N) :
    matmul D none x y (constant ⟨2, ![M, N]⟩ .f32 0x00000000#32) (ix2 r c) = ∑ k : Fin K, x (ix2 r k) * y (ix2 k c) := by
  subst hD
  refine (Ideal.matmul_plain_apply none x y _ r c).trans ?_
  rw [constant_apply, Ideal.ofBits_zero_f32, zero_add]

end Cert.Rows

end
-- ==== Proof.Payloads.lean ====
/-
  The kernel's printed payloads read at one element, over the extended reals: the query, a tile's scores, the new running
  maximum, the new running sum, the new weighted sum, and the output.
-/
module

public import proofs.«01_k».proof.Proof.Rows
public import proofs.«01_k».proof.Proof.Gen.KernelIdeal.Skeleton

@[expose] public section

noncomputable section

namespace Cert.KernelIdeal.Payloads

open Idealize.ShloMosaic Idealize.ShloMosaic.ValueIdx
open Cert.KernelIdeal Cert.KernelIdeal.Gen Cert.Rows
open scoped BigOperators

/-- The query laid down at the first point. -/
theorem query_apply (x : Vec Ideal S8x1024 .f32) (g b : Vec Ideal S1024 .f32) (W : Vec Ideal S1024x1024 .f32)
    (c : Vec Ideal S1024 .f32) (p : Fin 8) (j : Fin 1024) :
    k0_pay3 (F := Ideal) x g b W c (ix2 p j)
      = query (fun h => x (ix2 p h)) (fun h => g (ix1 h)) (fun h => b (ix1 h)) (fun j h => W (ix2 j h))
          (fun j => c (ix1 j)) j := by
  unfold k0_pay3 query
  simp only [shapeCast_self]
  rw [addf_apply, dot_rows dot_S8x1024_S1024x1024_S8x1024_1_1_0_0_n_n rfl, broadcastTo_1b_ab_apply, shapeCast_a_1a_apply]
  refine congrArg (· + _) (Finset.sum_congr rfl fun h _ => ?_)
  refine congrArg (· * _) ?_
  rw [addf_apply, mulf_apply, broadcastTo_1b_ab_apply, shapeCast_a_1a_apply, broadcastTo_1b_ab_apply, shapeCast_a_1a_apply]
  refine congrArg (· * _ + _) ?_
  have hmean : ∀ p : Fin 8, divf (F := Ideal) (φ := .f32) (shapeCast S8x1
      (multiReduction (F := Ideal) (φ := .f32) .add [1] S8 x 0x00000000#32 reduces_S8x1024_S8 (.inl rfl) rfl)
      shapeCasts_S8_S8x1) (broadcast S8x1 (Scalar.ofBits (F := Ideal) .f32 0x44800000#32)) (ix2 p (0 : Fin 1))
      = mean fun h => x (ix2 p h) := fun p => by
    rw [divf_apply, shapeCast_a_a1_apply]
    exact congrArg (Ideal.div · _) (row_sum x _ _ _ _ p)
  unfold standard
  rw [divf_apply, subf_apply, spread_col, spread_col, hmean]
  refine congrArg (Ideal.div _) ?_
  show Ideal.sqrt _ = _
  refine congrArg Ideal.sqrt ?_
  rw [addf_apply, divf_apply, shapeCast_a_a1_apply]
  unfold variance
  refine congrArg (Ideal.div · _ + _) ((row_sum _ _ _ _ _ p).trans (Finset.sum_congr rfl fun k _ => ?_))
  rw [mulf_apply, subf_apply, spread_col, hmean]

/-- A tile's score. -/
theorem score_apply (X : Vec Ideal S4096x1024 .f32) (q : Vec Ideal S8x1024 .f32) (p : Fin 8) (r : Fin 4096) :
    k0_pay8 (F := Ideal) X q (ix2 p r) = score (fun h => q (ix2 p h)) fun h => X (ix2 r h) := by
  unfold k0_pay8 k0_pay7
  rw [shapeCast_self]
  exact dot_rows dot_S8x1024_S4096x1024_S8x4096_1_1_0_0_n_n rfl q X p r

/-- The new running maximum. -/
theorem max_apply (X : Vec Ideal S4096x1024 .f32) (q : Vec Ideal S8x1024 .f32) (mx : Vec Ideal S8x1 .f32) (p : Fin 8) :
    k0_pay9 (F := Ideal) X q mx (ix2 p (0 : Fin 1))
      = max (mx (ix2 p (0 : Fin 1))) ((Finset.univ : Finset (Fin 4096)).fold max ⊥
          fun r => score (fun h => q (ix2 p h)) fun h => X (ix2 r h)) := by
  unfold k0_pay9
  rw [maximumf_apply, shapeCast_a_a1_apply]
  refine congrArg (max _) ((row_max _ _ _ _ _ p).trans ?_)
  rw [Softmax.word_bot]
  exact congrArg (Finset.fold max _ · Finset.univ) (funext fun r => score_apply X q p r)

/-- A tile's shifted exponential. -/
theorem exp_apply (X : Vec Ideal S4096x1024 .f32) (q : Vec Ideal S8x1024 .f32) (mx : Vec Ideal S8x1 .f32) (p : Fin 8)
    (r : Fin 4096) :
    k0_pay10 (F := Ideal) X q mx (ix2 p r)
      = Ideal.exp (score (fun h => q (ix2 p h)) (fun h => X (ix2 r h)) - k0_pay9 (F := Ideal) X q mx (ix2 p (0 : Fin 1))) := by
  unfold k0_pay10
  show Ideal.exp _ = _
  rw [subf_apply, spread_col, score_apply]

/-- The factor that carries the old sums to the new maximum. -/
theorem factor_apply (X : Vec Ideal S4096x1024 .f32) (q : Vec Ideal S8x1024 .f32) (mx : Vec Ideal S8x1 .f32) (p : Fin 8) :
    k0_pay11 (F := Ideal) X q mx (ix2 p (0 : Fin 1))
      = Ideal.exp (mx (ix2 p (0 : Fin 1)) - k0_pay9 (F := Ideal) X q mx (ix2 p (0 : Fin 1))) := rfl

/-- The new running sum. -/
theorem sum_apply (X : Vec Ideal S4096x1024 .f32) (q : Vec Ideal S8x1024 .f32) (mx l : Vec Ideal S8x1 .f32) (p : Fin 8) :
    k0_pay12 (F := Ideal) X q mx l (ix2 p (0 : Fin 1))
      = l (ix2 p (0 : Fin 1)) * k0_pay11 (F := Ideal) X q mx (ix2 p (0 : Fin 1)) + ∑ r, k0_pay10 (F := Ideal) X q mx (ix2 p r) := by
  unfold k0_pay12
  rw [shapeCast_self, addf_apply, mulf_apply, shapeCast_a_a1_apply]
  exact congrArg (_ + ·) (row_sum _ _ _ _ _ p)

/-- The new weighted sum. -/
theorem weighted_apply (X : Vec Ideal S4096x1024 .f32) (q : Vec Ideal S8x1024 .f32) (mx : Vec Ideal S8x1 .f32)
    (acc : Vec Ideal S8x1024 .f32) (p : Fin 8) (h : Fin 1024) :
    k0_pay13 (F := Ideal) X q mx acc (ix2 p h)
      = acc (ix2 p h) * k0_pay11 (F := Ideal) X q mx (ix2 p (0 : Fin 1))
        + ∑ r, k0_pay10 (F := Ideal) X q mx (ix2 p r) * X (ix2 r h) := by
  unfold k0_pay13 k0_pay7
  rw [shapeCast_self, shapeCast_self, addf_apply, mulf_apply, spread_col]
  exact congrArg (_ + ·) (dot_cols dot_S8x4096_S4096x1024_S8x1024_1_0_0_1_n_n rfl _ X p h)

/-- The stored running maximum. -/
theorem stored_max (v : Vec Ideal S8x1 .f32) : k0_pay1 (F := Ideal) v = v := by
  unfold k0_pay1; rw [shapeCast_self]

/-- The running maximum starts at minus infinity. -/
theorem start_max (p : Fin 8) : k0_pay4 (F := Ideal) (ix2 p (0 : Fin 1)) = ⊥ := by
  unfold k0_pay4; rw [shapeCast_self]; exact Softmax.word_bot

/-- The running sum starts at zero. -/
theorem start_sum (p : Fin 8) : k0_pay5 (F := Ideal) (ix2 p (0 : Fin 1)) = 0 := by
  unfold k0_pay5; rw [shapeCast_self]; exact Ideal.ofBits_zero_f32

/-- The weighted sum starts at zero. -/
theorem start_weighted (p : Fin 8) (h : Fin 1024) : k0_pay6 (F := Ideal) (ix2 p h) = 0 := by
  unfold k0_pay6; rw [shapeCast_self]; exact Ideal.ofBits_zero_f32

/-- The output: the residual, plus the projected quotient, plus the bias. -/
theorem out_apply (acc : Vec Ideal S8x1024 .f32) (l : Vec Ideal S8x1 .f32) (W : Vec Ideal S1024x1024 .f32)
    (x : Vec Ideal S8x1024 .f32) (c : Vec Ideal S1024 .f32) (p : Fin 8) (j : Fin 1024) :
    k0_pay2 (F := Ideal) acc l W x c (ix2 p j)
      = x (ix2 p j) + (∑ h, Ideal.div (acc (ix2 p h)) (l (ix2 p (0 : Fin 1))) * W (ix2 j h)) + c (ix1 j) := by
  unfold k0_pay2
  rw [addf_apply, addf_apply, shapeCast_self, dot_rows dot_S8x1024_S1024x1024_S8x1024_1_1_0_0_n_n rfl,
    broadcastTo_1b_ab_apply, shapeCast_a_1a_apply]
  refine congrArg (_ + · + _) (Finset.sum_congr rfl fun h _ => ?_)
  rw [divf_apply, spread_col]

end Cert.KernelIdeal.Payloads

end
-- ==== Proof.Tile.lean ====
/-
  What one grid point of the kernel leaves in its scratch buffers and in its output block, each as the printed payload
  of the values the point started from. The first point lays down the query and resets the running maximum, the running
  sum and the weighted sum before it takes its tile in; every later point takes its tile in over what the point before
  left; the last point also divides and projects into the output.
-/
module

public import proofs.«01_k».proof.Proof.Gen.KernelIdeal.Frame
public import Idealize.ShloMosaic.Lib.Pipeline.Value

@[expose] public section

set_option maxRecDepth 16384

noncomputable section

namespace Cert.KernelIdeal.Tile

open Idealize.ShloMosaic Idealize.ShloMosaic.TcCoe Idealize.ShloMosaic.Tactic Idealize.SL.Sem
open Cert.KernelIdeal Cert.KernelIdeal.Gen

variable {F : FTy → Type} [FloatOps F]

/-- The origin of a rank-two block. -/
theorem origin2 : (![0, 0] : Fin 2 → Nat) = fun _ => 0 := funext fun a => by fin_cases a <;> rfl
/-- The origin of a rank-one block. -/
theorem origin1 : (![0] : Fin 1 → Nat) = fun _ => 0 := funext fun a => by fin_cases a; rfl

section Case

variable (c : Dev nD) (i : grid0.Coords)
  (a1 : Memref sig .tc .vmem S8x1024 .f32) (h1 : a1.IsWhole)
  (a2 : Memref sig .tc .vmem S4096x1024 .f32) (h2 : a2.IsWhole)
  (a3 : Memref sig .tc .vmem S1024 .f32) (h3 : a3.IsWhole)
  (a4 : Memref sig .tc .vmem S1024 .f32) (h4 : a4.IsWhole)
  (a5 : Memref sig .tc .vmem S1024x1024 .f32) (h5 : a5.IsWhole)
  (a6 : Memref sig .tc .vmem S1024 .f32) (h6 : a6.IsWhole)
  (a7 : Memref sig .tc .vmem S1024x1024 .f32) (h7 : a7.IsWhole)
  (a8 : Memref sig .tc .vmem S1024 .f32) (h8 : a8.IsWhole)
  (a9 : Memref sig .tc .vmem S8x1024 .f32) (h9 : a9.IsWhole)
  (a10 : Memref sig .tc .vmem S8x1024 .f32) (h10 : a10.IsWhole)
  (a11 : Memref sig .tc .vmem S8x1 .f32) (h11 : a11.IsWhole)
  (a12 : Memref sig .tc .vmem S8x1 .f32) (h12 : a12.IsWhole)
  (a13 : Memref sig .tc .vmem S8x1024 .f32) (h13 : a13.IsWhole)
  (x0 : Vec F S8x1024 .f32) (x1 : Vec F S4096x1024 .f32) (x2 x3 : Vec F S1024 .f32) (x4 : Vec F S1024x1024 .f32)
  (x5 : Vec F S1024 .f32) (x6 : Vec F S1024x1024 .f32) (x7 : Vec F S1024 .f32)
  (q : Vec F S8x1024 .f32) (mx l : Vec F S8x1 .f32) (acc : Vec F S8x1024 .f32)

/-- The first point lays down the query. -/
theorem sout0_A_0_eq (hc0 : cond0_0 i) (hc1 : ¬cond0_1 i) :
    sout0_A_0 c i a1 h1 a2 h2 a3 h3 a4 h4 a5 h5 a6 h6 a7 h7 a8 h8 a9 h9 a10 h10 a11 h11 a12 h12 a13 h13 hc0 hc1 x0 x1 x2 x3 x4 x5 x6 x7
      = k0_pay3 x0 x2 x3 x4 x5 := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 hc0 hc1 x0 x1 x2 x3 x4 x5 x6 x7)]
  unfold kernelRun0_A
  dsimp only
  sl_unfold_words
  rw [View.canon_cons_unit_zero (S := S8x1024) origin2]
  simp only [View.readCov_unit_zero (S := S8x1024) _ origin2, View.readCov_unit_zero (S := S8x1) _ origin2,
    View.readAt_eq_ld, h1.read_unread, h2.read_unread, h3.read_unread, h4.read_unread, h5.read_unread, h6.read_unread, h7.read_unread, h8.read_unread, h10.read_unread, h11.read_unread, h12.read_unread, h13.read_unread,
    View.ld_unit_zero (S := S8x1024) origin2, View.ld_unit_zero (S := S4096x1024) origin2,
    View.ld_unit_zero (S := S1024x1024) origin2, View.ld_unit_zero (S := S8x1) origin2,
    View.ld_unit_zero (S := S1024) origin1]

/-- The running maximum after the first tile. -/
theorem sout0_A_1_eq (hc0 : cond0_0 i) (hc1 : ¬cond0_1 i) :
    sout0_A_1 c i a1 h1 a2 h2 a3 h3 a4 h4 a5 h5 a6 h6 a7 h7 a8 h8 a9 h9 a10 h10 a11 h11 a12 h12 a13 h13 hc0 hc1 x0 x1 x2 x3 x4 x5 x6 x7
      = k0_pay1 (k0_pay9 x1 (k0_pay3 x0 x2 x3 x4 x5) k0_pay4) := by
  unfold sout0_A_1
  rw [View.read_writes_eq_canon _ _ _ (scover0_A_1 c i a1 h1 a2 h2 a3 h3 a4 h4 a5 h5 a6 h6 a7 h7 a8 h8 a9 h9 a10 h10 a11 h11 a12 h12 a13 h13 hc0 hc1 x0 x1 x2 x3 x4 x5 x6 x7)]
  unfold kernelRun0_A
  dsimp only
  sl_unfold_words
  rw [View.canon_cons_unit_zero (S := S8x1) origin2]
  simp only [View.readCov_unit_zero (S := S8x1024) _ origin2, View.readCov_unit_zero (S := S8x1) _ origin2,
    View.readAt_eq_ld, h1.read_unread, h2.read_unread, h3.read_unread, h4.read_unread, h5.read_unread, h6.read_unread, h7.read_unread, h8.read_unread, h10.read_unread, h11.read_unread, h12.read_unread, h13.read_unread,
    View.ld_unit_zero (S := S8x1024) origin2, View.ld_unit_zero (S := S4096x1024) origin2,
    View.ld_unit_zero (S := S1024x1024) origin2, View.ld_unit_zero (S := S8x1) origin2,
    View.ld_unit_zero (S := S1024) origin1]

/-- The running sum after the first tile. -/
theorem sout0_A_2_eq (hc0 : cond0_0 i) (hc1 : ¬cond0_1 i) :
    sout0_A_2 c i a1 h1 a2 h2 a3 h3 a4 h4 a5 h5 a6 h6 a7 h7 a8 h8 a9 h9 a10 h10 a11 h11 a12 h12 a13 h13 hc0 hc1 x0 x1 x2 x3 x4 x5 x6 x7
      = k0_pay12 x1 (k0_pay3 x0 x2 x3 x4 x5) k0_pay4 k0_pay5 := by
  unfold sout0_A_2
  rw [View.read_writes_eq_canon _ _ _ (scover0_A_2 c i a1 h1 a2 h2 a3 h3 a4 h4 a5 h5 a6 h6 a7 h7 a8 h8 a9 h9 a10 h10 a11 h11 a12 h12 a13 h13 hc0 hc1 x0 x1 x2 x3 x4 x5 x6 x7)]
  unfold kernelRun0_A
  dsimp only
  sl_unfold_words
  rw [View.canon_cons_unit_zero (S := S8x1) origin2]
  simp only [View.readCov_unit_zero (S := S8x1024) _ origin2, View.readCov_unit_zero (S := S8x1) _ origin2,
    View.readAt_eq_ld, h1.read_unread, h2.read_unread, h3.read_unread, h4.read_unread, h5.read_unread, h6.read_unread, h7.read_unread, h8.read_unread, h10.read_unread, h11.read_unread, h12.read_unread, h13.read_unread,
    View.ld_unit_zero (S := S8x1024) origin2, View.ld_unit_zero (S := S4096x1024) origin2,
    View.ld_unit_zero (S := S1024x1024) origin2, View.ld_unit_zero (S := S8x1) origin2,
    View.ld_unit_zero (S := S1024) origin1]

/-- The weighted sum after the first tile. -/
theorem sout0_A_3_eq (hc0 : cond0_0 i) (hc1 : ¬cond0_1 i) :
    sout0_A_3 c i a1 h1 a2 h2 a3 h3 a4 h4 a5 h5 a6 h6 a7 h7 a8 h8 a9 h9 a10 h10 a11 h11 a12 h12 a13 h13 hc0 hc1 x0 x1 x2 x3 x4 x5 x6 x7
      = k0_pay13 x1 (k0_pay3 x0 x2 x3 x4 x5) k0_pay4 k0_pay6 := by
  unfold sout0_A_3
  rw [View.read_writes_eq_canon _ _ _ (scover0_A_3 c i a1 h1 a2 h2 a3 h3 a4 h4 a5 h5 a6 h6 a7 h7 a8 h8 a9 h9 a10 h10 a11 h11 a12 h12 a13 h13 hc0 hc1 x0 x1 x2 x3 x4 x5 x6 x7)]
  unfold kernelRun0_A
  dsimp only
  sl_unfold_words
  rw [View.canon_cons_unit_zero (S := S8x1024) origin2]
  simp only [View.readCov_unit_zero (S := S8x1024) _ origin2, View.readCov_unit_zero (S := S8x1) _ origin2,
    View.readAt_eq_ld, h1.read_unread, h2.read_unread, h3.read_unread, h4.read_unread, h5.read_unread, h6.read_unread, h7.read_unread, h8.read_unread, h10.read_unread, h11.read_unread, h12.read_unread, h13.read_unread,
    View.ld_unit_zero (S := S8x1024) origin2, View.ld_unit_zero (S := S4096x1024) origin2,
    View.ld_unit_zero (S := S1024x1024) origin2, View.ld_unit_zero (S := S8x1) origin2,
    View.ld_unit_zero (S := S1024) origin1]

/-- The running maximum after a middle tile. -/
theorem sout0_B_1_eq (hc0 : ¬cond0_0 i) (hc1 : ¬cond0_1 i) :
    sout0_B_1 c i a1 h1 a2 h2 a3 h3 a4 h4 a5 h5 a6 h6 a7 h7 a8 h8 a9 h9 a10 h10 a11 h11 a12 h12 a13 h13 hc0 hc1 x0 x1 x2 x3 x4 x5 x6 x7 q mx l acc
      = k0_pay1 (k0_pay9 x1 q mx) := by
  unfold sout0_B_1
  rw [View.read_writes_eq_canon _ _ _ (scover0_B_1 c i a1 h1 a2 h2 a3 h3 a4 h4 a5 h5 a6 h6 a7 h7 a8 h8 a9 h9 a10 h10 a11 h11 a12 h12 a13 h13 hc0 hc1 x0 x1 x2 x3 x4 x5 x6 x7 q mx l acc)]
  unfold kernelRun0_B
  dsimp only
  sl_unfold_words
  rw [View.canon_cons_unit_zero (S := S8x1) origin2]
  simp only [View.readCov_unit_zero (S := S8x1024) _ origin2, View.readCov_unit_zero (S := S8x1) _ origin2,
    View.readAt_eq_ld, h1.read_unread, h2.read_unread, h3.read_unread, h4.read_unread, h5.read_unread, h6.read_unread, h7.read_unread, h8.read_unread, h10.read_unread, h11.read_unread, h12.read_unread, h13.read_unread,
    View.ld_unit_zero (S := S8x1024) origin2, View.ld_unit_zero (S := S4096x1024) origin2,
    View.ld_unit_zero (S := S1024x1024) origin2, View.ld_unit_zero (S := S8x1) origin2,
    View.ld_unit_zero (S := S1024) origin1]

/-- The running sum after a middle tile. -/
theorem sout0_B_2_eq (hc0 : ¬cond0_0 i) (hc1 : ¬cond0_1 i) :
    sout0_B_2 c i a1 h1 a2 h2 a3 h3 a4 h4 a5 h5 a6 h6 a7 h7 a8 h8 a9 h9 a10 h10 a11 h11 a12 h12 a13 h13 hc0 hc1 x0 x1 x2 x3 x4 x5 x6 x7 q mx l acc
      = k0_pay12 x1 q mx l := by
  unfold sout0_B_2
  rw [View.read_writes_eq_canon _ _ _ (scover0_B_2 c i a1 h1 a2 h2 a3 h3 a4 h4 a5 h5 a6 h6 a7 h7 a8 h8 a9 h9 a10 h10 a11 h11 a12 h12 a13 h13 hc0 hc1 x0 x1 x2 x3 x4 x5 x6 x7 q mx l acc)]
  unfold kernelRun0_B
  dsimp only
  sl_unfold_words
  rw [View.canon_cons_unit_zero (S := S8x1) origin2]
  simp only [View.readCov_unit_zero (S := S8x1024) _ origin2, View.readCov_unit_zero (S := S8x1) _ origin2,
    View.readAt_eq_ld, h1.read_unread, h2.read_unread, h3.read_unread, h4.read_unread, h5.read_unread, h6.read_unread, h7.read_unread, h8.read_unread, h10.read_unread, h11.read_unread, h12.read_unread, h13.read_unread,
    View.ld_unit_zero (S := S8x1024) origin2, View.ld_unit_zero (S := S4096x1024) origin2,
    View.ld_unit_zero (S := S1024x1024) origin2, View.ld_unit_zero (S := S8x1) origin2,
    View.ld_unit_zero (S := S1024) origin1]

/-- The weighted sum after a middle tile. -/
theorem sout0_B_3_eq (hc0 : ¬cond0_0 i) (hc1 : ¬cond0_1 i) :
    sout0_B_3 c i a1 h1 a2 h2 a3 h3 a4 h4 a5 h5 a6 h6 a7 h7 a8 h8 a9 h9 a10 h10 a11 h11 a12 h12 a13 h13 hc0 hc1 x0 x1 x2 x3 x4 x5 x6 x7 q mx l acc
      = k0_pay13 x1 q mx acc := by
  unfold sout0_B_3
  rw [View.read_writes_eq_canon _ _ _ (scover0_B_3 c i a1 h1 a2 h2 a3 h3 a4 h4 a5 h5 a6 h6 a7 h7 a8 h8 a9 h9 a10 h10 a11 h11 a12 h12 a13 h13 hc0 hc1 x0 x1 x2 x3 x4 x5 x6 x7 q mx l acc)]
  unfold kernelRun0_B
  dsimp only
  sl_unfold_words
  rw [View.canon_cons_unit_zero (S := S8x1024) origin2]
  simp only [View.readCov_unit_zero (S := S8x1024) _ origin2, View.readCov_unit_zero (S := S8x1) _ origin2,
    View.readAt_eq_ld, h1.read_unread, h2.read_unread, h3.read_unread, h4.read_unread, h5.read_unread, h6.read_unread, h7.read_unread, h8.read_unread, h10.read_unread, h11.read_unread, h12.read_unread, h13.read_unread,
    View.ld_unit_zero (S := S8x1024) origin2, View.ld_unit_zero (S := S4096x1024) origin2,
    View.ld_unit_zero (S := S1024x1024) origin2, View.ld_unit_zero (S := S8x1) origin2,
    View.ld_unit_zero (S := S1024) origin1]

/-- The running maximum after the last tile. -/
theorem sout0_C_1_eq (hc0 : ¬cond0_0 i) (hc1 : cond0_1 i) :
    sout0_C_1 c i a1 h1 a2 h2 a3 h3 a4 h4 a5 h5 a6 h6 a7 h7 a8 h8 a9 h9 a10 h10 a11 h11 a12 h12 a13 h13 hc0 hc1 x0 x1 x2 x3 x4 x5 x6 x7 q mx l acc
      = k0_pay1 (k0_pay9 x1 q mx) := by
  unfold sout0_C_1
  rw [View.read_writes_eq_canon _ _ _ (scover0_C_1 c i a1 h1 a2 h2 a3 h3 a4 h4 a5 h5 a6 h6 a7 h7 a8 h8 a9 h9 a10 h10 a11 h11 a12 h12 a13 h13 hc0 hc1 x0 x1 x2 x3 x4 x5 x6 x7 q mx l acc)]
  unfold kernelRun0_C
  dsimp only
  sl_unfold_words
  rw [View.canon_cons_unit_zero (S := S8x1) origin2]
  simp only [View.readCov_unit_zero (S := S8x1024) _ origin2, View.readCov_unit_zero (S := S8x1) _ origin2,
    View.readAt_eq_ld, h1.read_unread, h2.read_unread, h3.read_unread, h4.read_unread, h5.read_unread, h6.read_unread, h7.read_unread, h8.read_unread, h10.read_unread, h11.read_unread, h12.read_unread, h13.read_unread,
    View.ld_unit_zero (S := S8x1024) origin2, View.ld_unit_zero (S := S4096x1024) origin2,
    View.ld_unit_zero (S := S1024x1024) origin2, View.ld_unit_zero (S := S8x1) origin2,
    View.ld_unit_zero (S := S1024) origin1]

/-- The running sum after the last tile. -/
theorem sout0_C_2_eq (hc0 : ¬cond0_0 i) (hc1 : cond0_1 i) :
    sout0_C_2 c i a1 h1 a2 h2 a3 h3 a4 h4 a5 h5 a6 h6 a7 h7 a8 h8 a9 h9 a10 h10 a11 h11 a12 h12 a13 h13 hc0 hc1 x0 x1 x2 x3 x4 x5 x6 x7 q mx l acc
      = k0_pay12 x1 q mx l := by
  unfold sout0_C_2
  rw [View.read_writes_eq_canon _ _ _ (scover0_C_2 c i a1 h1 a2 h2 a3 h3 a4 h4 a5 h5 a6 h6 a7 h7 a8 h8 a9 h9 a10 h10 a11 h11 a12 h12 a13 h13 hc0 hc1 x0 x1 x2 x3 x4 x5 x6 x7 q mx l acc)]
  unfold kernelRun0_C
  dsimp only
  sl_unfold_words
  rw [View.canon_cons_unit_zero (S := S8x1) origin2]
  simp only [View.readCov_unit_zero (S := S8x1024) _ origin2, View.readCov_unit_zero (S := S8x1) _ origin2,
    View.readAt_eq_ld, h1.read_unread, h2.read_unread, h3.read_unread, h4.read_unread, h5.read_unread, h6.read_unread, h7.read_unread, h8.read_unread, h10.read_unread, h11.read_unread, h12.read_unread, h13.read_unread,
    View.ld_unit_zero (S := S8x1024) origin2, View.ld_unit_zero (S := S4096x1024) origin2,
    View.ld_unit_zero (S := S1024x1024) origin2, View.ld_unit_zero (S := S8x1) origin2,
    View.ld_unit_zero (S := S1024) origin1]

/-- The weighted sum after the last tile. -/
theorem sout0_C_3_eq (hc0 : ¬cond0_0 i) (hc1 : cond0_1 i) :
    sout0_C_3 c i a1 h1 a2 h2 a3 h3 a4 h4 a5 h5 a6 h6 a7 h7 a8 h8 a9 h9 a10 h10 a11 h11 a12 h12 a13 h13 hc0 hc1 x0 x1 x2 x3 x4 x5 x6 x7 q mx l acc
      = k0_pay13 x1 q mx acc := by
  unfold sout0_C_3
  rw [View.read_writes_eq_canon _ _ _ (scover0_C_3 c i a1 h1 a2 h2 a3 h3 a4 h4 a5 h5 a6 h6 a7 h7 a8 h8 a9 h9 a10 h10 a11 h11 a12 h12 a13 h13 hc0 hc1 x0 x1 x2 x3 x4 x5 x6 x7 q mx l acc)]
  unfold kernelRun0_C
  dsimp only
  sl_unfold_words
  rw [View.canon_cons_unit_zero (S := S8x1024) origin2]
  simp only [View.readCov_unit_zero (S := S8x1024) _ origin2, View.readCov_unit_zero (S := S8x1) _ origin2,
    View.readAt_eq_ld, h1.read_unread, h2.read_unread, h3.read_unread, h4.read_unread, h5.read_unread, h6.read_unread, h7.read_unread, h8.read_unread, h10.read_unread, h11.read_unread, h12.read_unread, h13.read_unread,
    View.ld_unit_zero (S := S8x1024) origin2, View.ld_unit_zero (S := S4096x1024) origin2,
    View.ld_unit_zero (S := S1024x1024) origin2, View.ld_unit_zero (S := S8x1) origin2,
    View.ld_unit_zero (S := S1024) origin1]

/-- The output block: the weighted sum over the running sum, projected, with the residual and the bias. -/
theorem out0_C_8_eq (hc0 : ¬cond0_0 i) (hc1 : cond0_1 i) :
    out0_C_8 c i a1 h1 a2 h2 a3 h3 a4 h4 a5 h5 a6 h6 a7 h7 a8 h8 a9 h9 a10 h10 a11 h11 a12 h12 a13 h13 hc0 hc1 x0 x1 x2 x3 x4 x5 x6 x7 q mx l acc
      = k0_pay2 (k0_pay13 x1 q mx acc) (k0_pay12 x1 q mx l) x6 x0 x7 := by
  unfold out0_C_8
  rw [View.read_writes_eq_canon _ _ _ (cover0_C_8 c i a1 h1 a2 h2 a3 h3 a4 h4 a5 h5 a6 h6 a7 h7 a8 h8 a9 h9 a10 h10 a11 h11 a12 h12 a13 h13 hc0 hc1 x0 x1 x2 x3 x4 x5 x6 x7 q mx l acc)]
  unfold kernelRun0_C
  dsimp only
  sl_unfold_words
  rw [View.canon_cons_unit_zero (S := S8x1024) origin2]
  simp only [View.readCov_unit_zero (S := S8x1024) _ origin2, View.readCov_unit_zero (S := S8x1) _ origin2,
    View.readAt_eq_ld, h1.read_unread, h2.read_unread, h3.read_unread, h4.read_unread, h5.read_unread, h6.read_unread, h7.read_unread, h8.read_unread, h10.read_unread, h11.read_unread, h12.read_unread, h13.read_unread,
    View.ld_unit_zero (S := S8x1024) origin2, View.ld_unit_zero (S := S4096x1024) origin2,
    View.ld_unit_zero (S := S1024x1024) origin2, View.ld_unit_zero (S := S8x1) origin2,
    View.ld_unit_zero (S := S1024) origin1]

end Case

end Cert.KernelIdeal.Tile

end
-- ==== Proof.Blocks.lean ====
/-
  What the kernel's blocks hold in terms of the arguments. The hidden states and the memory reach the kernel with an
  axis of length one dropped; the memory is then cut into sixteen tiles of 4096 rows, and every other operand is one
  block, the same at every grid point.
-/
module

public import proofs.«01_k».proof.Proof.Payloads
public import proofs.«01_k».proof.Proof.Tile

@[expose] public section

set_option maxRecDepth 16384

noncomputable section

namespace Cert.KernelIdeal.Blocks

open Idealize.ShloMosaic Idealize.ShloMosaic.TcCoe Idealize.ShloMosaic.ValueIdx Idealize.SL Idealize.SL.Sem
open Cert.KernelIdeal Cert.KernelIdeal.Gen

variable (m : (l : Loc nD τ sig) → Buf (Elt Ideal) l) (c : Dev nD)

/-- The kernel's hidden states: the first argument with its middle axis dropped. -/
theorem entry_hidden : V m c main_v0
    = shapeCast S8x1024 (m ((c : Thread nD τ).loc main_arg0)) shapeCasts_S8x1x1024_S8x1024 := by
  show StableHlo.after hostOps0 (fun b => m (c, b)) (Proc.devRef .tc main_v0) = _
  unfold hostOps0
  after_results_simp
  rfl

/-- The kernel's memory: the second argument with its leading axis dropped. -/
theorem entry_memory : V m c main_v1
    = shapeCast S65536x1024 (m ((c : Thread nD τ).loc main_arg1)) shapeCasts_S1x65536x1024_S65536x1024 := by
  show StableHlo.after hostOps0 (fun b => m (c, b)) (Proc.devRef .tc main_v1) = _
  unfold hostOps0
  after_results_simp
  rfl

/-- Every window but the memory's stays at its one block, and the memory's moves one block a point. -/
theorem places : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 1) = 0 ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0 :=
  (by decide +kernel : ∀ t : Fin grid0.N, _)

/-- The hidden-state block is the batch's hidden states. -/
theorem hidden_apply (t : Fin cfg0.N) (p : Fin 8) (h : Fin 1024) :
    iblk m c 0 t (ix2 p h) = m ((c : Thread nD τ).loc main_arg0) (ix3 p 0 h) := by
  obtain ⟨e0, e1, -⟩ := places t
  unfold iblk; rw [View.read_apply]
  show V m c main_v0 _ = _
  rw [entry_hidden]
  refine shapeCast_apply _ _ _ _ ?_
  rw [Shape.rowMajor_val_two]
  refine (Shape.rowMajor_val_three _).trans ?_
  show (p.val * 1 + 0) * 1024 + h.val
    = (win0_0.index t (0 : Fin 2) * 8 + 1 * p.val) * 1024 + (win0_0.index t (1 : Fin 2) * 1024 + 1 * h.val)
  omega

/-- The memory block at point `t` is rows `4096 t` to `4096 t + 4095` of the memory. -/
theorem memory_apply (t : Fin cfg0.N) (r : Fin 4096) (h : Fin 1024) (k : Fin 65536) (hk : k.val = 4096 * t.val + r.val) :
    iblk m c 1 t (ix2 r h) = m ((c : Thread nD τ).loc main_arg1) (ix3 0 k h) := by
  obtain ⟨-, -, e0, e1, -⟩ := places t
  unfold iblk; rw [View.read_apply]
  show V m c main_v1 _ = _
  rw [entry_memory]
  refine shapeCast_apply _ _ _ _ ?_
  rw [Shape.rowMajor_val_two]
  refine (Shape.rowMajor_val_three _).trans ?_
  show (0 * 65536 + k.val) * 1024 + h.val
    = (win0_1.index t (0 : Fin 2) * 4096 + 1 * r.val) * 1024 + (win0_1.index t (1 : Fin 2) * 1024 + 1 * h.val)
  omega

/-- The norm scale block is the norm scale. -/
theorem norm_scale (t : Fin cfg0.N) : iblk m c 2 t = m ((c : Thread nD τ).loc main_arg2) := by
  obtain ⟨-, -, -, -, e0, -⟩ := places t
  funext j
  unfold iblk; rw [View.read_apply]
  show V m c main_arg2 _ = _
  rw [V_main_arg2]
  refine congrArg _ (funext fun a => Fin.ext ?_)
  match a with
  | ⟨0, _⟩ => show win0_2.index t (0 : Fin 1) * 1024 + 1 * (j 0).val = (j 0).val; omega

/-- The norm shift block is the norm shift. -/
theorem norm_shift (t : Fin cfg0.N) : iblk m c 3 t = m ((c : Thread nD τ).loc main_arg3) := by
  obtain ⟨-, -, -, -, -, e0, -⟩ := places t
  funext j
  unfold iblk; rw [View.read_apply]
  show V m c main_arg3 _ = _
  rw [V_main_arg3]
  refine congrArg _ (funext fun a => Fin.ext ?_)
  match a with
  | ⟨0, _⟩ => show win0_3.index t (0 : Fin 1) * 1024 + 1 * (j 0).val = (j 0).val; omega

/-- The query weight block is the query weight. -/
theorem query_weight (t : Fin cfg0.N) : iblk m c 4 t = m ((c : Thread nD τ).loc main_arg4) := by
  obtain ⟨-, -, -, -, -, -, e0, e1, -⟩ := places t
  funext j
  unfold iblk; rw [View.read_apply]
  show V m c main_arg4 _ = _
  rw [V_main_arg4]
  refine congrArg _ (funext fun a => Fin.ext ?_)
  match a with
  | ⟨0, _⟩ => show win0_4.index t (0 : Fin 2) * 1024 + 1 * (j 0).val = (j 0).val; omega
  | ⟨1, _⟩ => show win0_4.index t (1 : Fin 2) * 1024 + 1 * (j 1).val = (j 1).val; omega

/-- The query bias block is the query bias. -/
theorem query_bias (t : Fin cfg0.N) : iblk m c 5 t = m ((c : Thread nD τ).loc main_arg5) := by
  obtain ⟨-, -, -, -, -, -, -, -, e0, -⟩ := places t
  funext j
  unfold iblk; rw [View.read_apply]
  show V m c main_arg5 _ = _
  rw [V_main_arg5]
  refine congrArg _ (funext fun a => Fin.ext ?_)
  match a with
  | ⟨0, _⟩ => show win0_5.index t (0 : Fin 1) * 1024 + 1 * (j 0).val = (j 0).val; omega

/-- The output weight block is the output weight. -/
theorem output_weight (t : Fin cfg0.N) : iblk m c 6 t = m ((c : Thread nD τ).loc main_arg6) := by
  obtain ⟨-, -, -, -, -, -, -, -, -, e0, e1, -⟩ := places t
  funext j
  unfold iblk; rw [View.read_apply]
  show V m c main_arg6 _ = _
  rw [V_main_arg6]
  refine congrArg _ (funext fun a => Fin.ext ?_)
  match a with
  | ⟨0, _⟩ => show win0_6.index t (0 : Fin 2) * 1024 + 1 * (j 0).val = (j 0).val; omega
  | ⟨1, _⟩ => show win0_6.index t (1 : Fin 2) * 1024 + 1 * (j 1).val = (j 1).val; omega

/-- The output bias block is the output bias. -/
theorem output_bias (t : Fin cfg0.N) : iblk m c 7 t = m ((c : Thread nD τ).loc main_arg7) := by
  obtain ⟨-, -, -, -, -, -, -, -, -, -, -, e0, -⟩ := places t
  funext j
  unfold iblk; rw [View.read_apply]
  show V m c main_arg7 _ = _
  rw [V_main_arg7]
  refine congrArg _ (funext fun a => Fin.ext ?_)
  match a with
  | ⟨0, _⟩ => show win0_7.index t (0 : Fin 1) * 1024 + 1 * (j 0).val = (j 0).val; omega

end Cert.KernelIdeal.Blocks

end
-- ==== Proof.Step.lean ====
/-
  One tile taken in, on real queries and real memory rows: the payloads of a grid point carry the running maximum, the
  running sum and the weighted sum of the rows seen so far to those of the rows seen including the tile's 4096.
-/
module

public import proofs.«01_k».proof.Proof.Blocks

@[expose] public section

noncomputable section

namespace Cert.KernelIdeal.Step

open Idealize.ShloMosaic Idealize.ShloMosaic.ValueIdx
open Cert.KernelIdeal Cert.KernelIdeal.Gen Cert.KernelIdeal.Payloads Cert.Rows Cert.Softmax
open scoped BigOperators

/-- Once the running maximum is a real number, the running sum is scaled by its exponential. -/
theorem held_real {M S : ℝ} {s : EReal} (h : Held (M : EReal) s S) : s = ((Real.exp (-M) * S : ℝ) : EReal) := by
  rcases h with ⟨h, -, -⟩ | ⟨M', h, hs⟩
  · exact absurd h (EReal.coe_ne_bot M)
  · rw [hs, EReal.coe_eq_coe_iff.mp h]

/-- A score of real numbers is a real number. -/
theorem score_real (q μ : Fin 1024 → ℝ) :
    score (fun h => ((q h : ℝ) : EReal)) (fun h => ((μ h : ℝ) : EReal)) = ((∑ h, q h * μ h : ℝ) : EReal) := by
  unfold score
  rw [Finset.sum_congr rfl fun h _ => (EReal.coe_mul (q h) (μ h)).symm, sum_coe]

section Tile

variable (X : Vec Ideal S4096x1024 .f32) (q : Vec Ideal S8x1024 .f32) (mx l : Vec Ideal S8x1 .f32)
  (acc : Vec Ideal S8x1024 .f32) (p : Fin 8) (qr : Fin 1024 → ℝ) (μ : Fin 4096 → Fin 1024 → ℝ)
  (hq : ∀ h, q (ix2 p h) = ((qr h : ℝ) : EReal)) (hX : ∀ r h, X (ix2 r h) = ((μ r h : ℝ) : EReal))

include hq hX

/-- The tile's scores are real numbers. -/
theorem tile_score (r : Fin 4096) :
    score (fun h => q (ix2 p h)) (fun h => X (ix2 r h)) = ((∑ h, qr h * μ r h : ℝ) : EReal) := by
  rw [funext hq, funext (hX r), score_real]

/-- The new running maximum is a real number. -/
theorem tile_max {S : ℝ} {s : EReal} (H : Held (mx (ix2 p (0 : Fin 1))) s S) :
    ∃ M : ℝ, k0_pay9 (F := Ideal) X q mx (ix2 p (0 : Fin 1)) = (M : EReal) := by
  obtain ⟨M, hM⟩ := max_step H fun r : Fin (4095 + 1) => ∑ h, qr h * μ r h
  refine ⟨M, (max_apply X q mx p).trans (Eq.trans ?_ hM)⟩
  exact congrArg (fun f => max _ (Finset.fold max _ f Finset.univ)) (funext fun r => tile_score X q p qr μ hq hX r)

/-- The running sum over one more tile. -/
theorem tile_sum {S : ℝ} (H : Held (mx (ix2 p (0 : Fin 1))) (l (ix2 p (0 : Fin 1))) S) :
    Held (k0_pay9 (F := Ideal) X q mx (ix2 p (0 : Fin 1))) (k0_pay12 (F := Ideal) X q mx l (ix2 p (0 : Fin 1)))
      (S + ∑ r, Real.exp (∑ h, qr h * μ r h)) := by
  obtain ⟨M, hM⟩ := tile_max X q mx p qr μ hq hX H
  refine Or.inr ⟨M, hM, ?_⟩
  rw [sum_apply, factor_apply, hM, Finset.sum_congr rfl fun r _ => exp_apply X q mx p r, hM,
    Finset.sum_congr rfl fun r _ => congrArg (fun s => Ideal.exp (s - (M : EReal))) (tile_score X q p qr μ hq hX r)]
  exact sum_step H _ M

/-- The weighted sum over one more tile. -/
theorem tile_weighted {S W : ℝ} {s : EReal} (h : Fin 1024) (H : Held (mx (ix2 p (0 : Fin 1))) s S)
    (HW : Held (mx (ix2 p (0 : Fin 1))) (acc (ix2 p h)) W) :
    Held (k0_pay9 (F := Ideal) X q mx (ix2 p (0 : Fin 1))) (k0_pay13 (F := Ideal) X q mx acc (ix2 p h))
      (W + ∑ r, Real.exp (∑ h, qr h * μ r h) * μ r h) := by
  obtain ⟨M, hM⟩ := tile_max X q mx p qr μ hq hX H
  refine Or.inr ⟨M, hM, ?_⟩
  rw [weighted_apply, factor_apply, hM,
    Finset.sum_congr rfl fun r _ => congrArg (· * X (ix2 r h)) (exp_apply X q mx p r), hM,
    Finset.sum_congr rfl fun r _ => congrArg₂ (fun s x => Ideal.exp (s - (M : EReal)) * x)
      (tile_score X q p qr μ hq hX r) (hX r h)]
  exact weighted_step HW _ _ M

end Tile

/-- A sum over the rows up to a tile's end is the sum up to its start and the tile's. -/
theorem range_tile (f : ℕ → ℝ) (t : ℕ) :
    ∑ k ∈ Finset.range (4096 * (t + 1)), f k
      = ∑ k ∈ Finset.range (4096 * t), f k + ∑ r : Fin 4096, f (4096 * t + r.val) := by
  rw [Nat.mul_succ, Finset.sum_range_add, Finset.sum_range fun r => f (4096 * t + r)]

end Cert.KernelIdeal.Step

end
-- ==== Proof.Carried.lean ====
/-
  What the grid points carry, point by point: the query, the running maximum, the running sum and the weighted sum after
  each point as the payloads of what the point before left, and the output block of the last point.
-/
module

public import proofs.«01_k».proof.Proof.Step

@[expose] public section

set_option maxRecDepth 16384

noncomputable section

namespace Cert.KernelIdeal.Carried

open Idealize.ShloMosaic Idealize.ShloMosaic.TcCoe Idealize.SL Idealize.SL.Sem
open Cert.KernelIdeal Cert.KernelIdeal.Gen

variable (m : (l : Loc nD τ sig) → Buf (Elt Ideal) l) (c : Dev nD)

/-- The query block of the batch. -/
abbrev queryBlock (t : Fin cfg0.N) : Vec Ideal S8x1024 .f32 :=
  k0_pay3 (F := Ideal) (iblk m c 0 t) (iblk m c 2 t) (iblk m c 3 t) (iblk m c 4 t) (iblk m c 5 t)

/-- The values one point carries to the next, when its tile is taken in over `q`, `mx`, `l` and `acc`. -/
abbrev taken (t : Fin cfg0.N) (q : Vec Ideal S8x1024 .f32) (mx l : Vec Ideal S8x1 .f32) (acc : Vec Ideal S8x1024 .f32) :
    Vec Ideal S8x1024 .f32 × Vec Ideal S8x1 .f32 × Vec Ideal S8x1 .f32 × Vec Ideal S8x1024 .f32 :=
  (q, k0_pay9 (F := Ideal) (iblk m c 1 t) q mx, k0_pay12 (F := Ideal) (iblk m c 1 t) q mx l,
    k0_pay13 (F := Ideal) (iblk m c 1 t) q mx acc)

/-- The first point lays down the query and takes its tile in over the starting values. -/
theorem first (t : Fin cfg0.N) (h0 : t.val % 16 = 0) (h1 : ¬t.val % 16 = 15) :
    (outsAt0 m c t.val t.isLt).2
      = taken m c t (queryBlock m c t) (k0_pay4 (F := Ideal)) (k0_pay5 (F := Ideal)) (k0_pay6 (F := Ideal)) := by
  rw [outsAt0_A m c t h0 h1]
  refine congrArg₂ Prod.mk ?_ (congrArg₂ Prod.mk ?_ (congrArg₂ Prod.mk ?_ ?_))
  · exact Tile.sout0_A_0_eq ..
  · exact (Tile.sout0_A_1_eq ..).trans (Payloads.stored_max _)
  · exact Tile.sout0_A_2_eq ..
  · exact Tile.sout0_A_3_eq ..

/-- Every later point takes its tile in over what the point before left. -/
theorem later (t : Fin cfg0.N) (h0 : ¬t.val % 16 = 0) (n : ℕ) (hn : n < cfg0.N) (ht : t.val = n + 1) :
    (outsAt0 m c t.val t.isLt).2
      = taken m c t (outsAt0 m c n hn).2.1 (outsAt0 m c n hn).2.2.1 (outsAt0 m c n hn).2.2.2.1
          (outsAt0 m c n hn).2.2.2.2 := by
  obtain rfl : n = t.val - 1 := by omega
  by_cases h1 : t.val % 16 = 15
  · rw [outsAt0_C m c t h0 h1]
    refine congrArg₂ Prod.mk ?_ (congrArg₂ Prod.mk ?_ (congrArg₂ Prod.mk ?_ ?_))
    · rfl
    · exact (Tile.sout0_C_1_eq ..).trans (Payloads.stored_max _)
    · exact Tile.sout0_C_2_eq ..
    · exact Tile.sout0_C_3_eq ..
  · rw [outsAt0_B m c t h0 h1]
    refine congrArg₂ Prod.mk ?_ (congrArg₂ Prod.mk ?_ (congrArg₂ Prod.mk ?_ ?_))
    · rfl
    · exact (Tile.sout0_B_1_eq ..).trans (Payloads.stored_max _)
    · exact Tile.sout0_B_2_eq ..
    · exact Tile.sout0_B_3_eq ..

/-- The last point's output block, from the sums it has itself just updated. -/
theorem last (t : Fin cfg0.N) (h0 : ¬t.val % 16 = 0) (h1 : t.val % 16 = 15) :
    (outsAt0 m c t.val t.isLt).1
      = k0_pay2 (F := Ideal) (outsAt0 m c t.val t.isLt).2.2.2.2 (outsAt0 m c t.val t.isLt).2.2.2.1
          (iblk m c 6 t) (iblk m c 0 t) (iblk m c 7 t) := by
  have hlater := later m c t h0 (t.val - 1) (Nat.lt_of_le_of_lt (Nat.sub_le _ _) t.isLt) (by omega)
  have h := congrArg Prod.fst (outsAt0_C m c t h0 h1)
  rw [Tile.out0_C_8_eq] at h
  rw [hlater]
  exact h

end Cert.KernelIdeal.Carried

end
-- ==== Proof.Realness.lean ====
/-
  The query is made of real numbers whatever the hidden states are. A row with an infinite mean has an infinite variance,
  so its standard form is zero; a row with a real mean has only real entries, and its deviation is a positive real number.
-/
module

public import proofs.«01_k».proof.Proof.Carried

@[expose] public section

noncomputable section

namespace Cert.Realness

open Idealize.ShloMosaic Cert.Rows Cert.Softmax
open scoped BigOperators

/-- The row's length is 1024. -/
theorem len_real : len = ((1024 : ℝ) : EReal) := by
  unfold len; simp [Ideal.ofBits, Ideal.ieee]; rw [← EReal.coe_mul]; norm_num

/-- The small number added to the variance is positive. -/
theorem eps_real : ∃ e : ℝ, 0 < e ∧ eps = (e : EReal) := by
  unfold eps
  simp only [Ideal.ofBits, Ideal.ieee]
  norm_num
  refine ⟨_, ?_, rfl⟩
  rw [if_neg (by decide)]
  positivity

/-- A number is real when it is neither infinity. -/
theorem real_of_ne {x : EReal} (h₁ : x ≠ ⊤) (h₂ : x ≠ ⊥) : ∃ r : ℝ, x = (r : EReal) :=
  ⟨x.toReal, (EReal.coe_toReal h₁ h₂).symm⟩

/-- Dividing by the length keeps the infinities. -/
theorem div_len (x : EReal) : Ideal.div x len = x * ((1 / 1024 : ℝ) : EReal) := by
  rw [len_real, Ideal.div_coe (by norm_num)]

/-- A finite sum of extended reals that is real has only real terms. -/
theorem term_real {n : ℕ} (x : Fin n → EReal) {s : ℝ} (h : ∑ k, x k = (s : EReal)) (k : Fin n) : ∃ r : ℝ, x k = (r : EReal) := by
  rw [← Finset.add_sum_erase _ _ (Finset.mem_univ k)] at h
  refine real_of_ne (fun e => ?_) fun e => ?_
  · rw [e] at h
    by_cases hb : ∑ i ∈ Finset.univ.erase k, x i = ⊥
    · rw [hb, EReal.add_bot] at h; exact EReal.coe_ne_bot s h.symm
    · rw [EReal.top_add_of_ne_bot hb] at h; exact EReal.coe_ne_top s h.symm
  · rw [e, EReal.bot_add] at h; exact EReal.coe_ne_bot s h.symm

/-- A number less an infinity has an infinite square. -/
theorem square_infinite {a : EReal} (ha : a = ⊤ ∨ a = ⊥) (x : EReal) : (x - a) * (x - a) = ⊤ := by
  rcases ha with rfl | rfl
  · rw [EReal.sub_top]; rfl
  · by_cases hx : x = ⊥
    · rw [hx]; rfl
    · rw [sub_eq_add_neg, EReal.neg_bot, EReal.add_top_of_ne_bot hx]; rfl

/-- A row with an infinite mean standardizes to zero. -/
theorem standard_infinite (x : Fin 1024 → EReal) (h : Fin 1024) (hm : mean x = ⊤ ∨ mean x = ⊥) : standard x h = 0 := by
  have hs : ∑ k, (x k - mean x) * (x k - mean x) = ⊤ := by
    rw [Finset.sum_congr rfl fun k _ => square_infinite hm (x k)]
    exact top_le_iff.mp (Finset.single_le_sum (f := fun _ : Fin 1024 => (⊤ : EReal)) (fun _ _ => le_top) (Finset.mem_univ 0))
  have hv : variance x = ⊤ := by
    unfold variance; rw [hs, div_len]; exact EReal.top_mul_coe_of_pos (by norm_num)
  obtain ⟨e, -, he⟩ := eps_real
  unfold standard
  rw [hv, he, EReal.top_add_coe]
  show Ideal.div _ ⊤ = 0
  unfold Ideal.div
  rw [if_neg (by simp), EReal.inv_top, mul_zero]

/-- A row's standard form is real. -/
theorem standard_real (x : Fin 1024 → EReal) (h : Fin 1024) : ∃ r : ℝ, standard x h = (r : EReal) := by
  by_cases ht : mean x = ⊤
  · exact ⟨0, standard_infinite x h (Or.inl ht)⟩
  by_cases hb : mean x = ⊥
  · exact ⟨0, standard_infinite x h (Or.inr hb)⟩
  obtain ⟨M, hM⟩ := real_of_ne ht hb
  have hsum : ∃ s : ℝ, ∑ k, x k = (s : EReal) := by
    refine real_of_ne (fun e => ht ?_) fun e => hb ?_
    · unfold mean; rw [e, div_len]; exact EReal.top_mul_coe_of_pos (by norm_num)
    · unfold mean; rw [e, div_len]; exact EReal.bot_mul_coe_of_pos (by norm_num)
  obtain ⟨s, hs⟩ := hsum
  choose y hy using fun k => term_real x hs k
  have hv : variance x = ((∑ k, (y k - M) * (y k - M)) * (1 / 1024) : ℝ) := by
    unfold variance
    rw [hM, div_len, Finset.sum_congr rfl fun k _ => (by rw [hy k, ← EReal.coe_sub, ← EReal.coe_mul] :
      (x k - (M : EReal)) * (x k - (M : EReal)) = (((y k - M) * (y k - M) : ℝ) : EReal)), sum_coe, ← EReal.coe_mul]
  obtain ⟨e, hpos, he⟩ := eps_real
  have hn : 0 < (∑ k, (y k - M) * (y k - M)) * (1 / 1024) + e :=
    add_pos_of_nonneg_of_pos (mul_nonneg (Finset.sum_nonneg fun k _ => mul_self_nonneg _) (by norm_num)) hpos
  have hroot : Ideal.sqrt (variance x + eps) = ((Real.sqrt ((∑ k, (y k - M) * (y k - M)) * (1 / 1024) + e) : ℝ) : EReal) := by
    rw [hv, he, ← EReal.coe_add]
    exact if_neg (not_lt.mpr hn.le)
  refine ⟨(y h - M) / Real.sqrt ((∑ k, (y k - M) * (y k - M)) * (1 / 1024) + e), ?_⟩
  unfold standard
  rw [hroot, hM, hy h, ← EReal.coe_sub, div_real _ (Real.sqrt_pos.mpr hn).ne']

/-- A query of any row, with real scale, shift, weight and bias, is real. -/
theorem query_real (x : Fin 1024 → EReal) (g b : Fin 1024 → ℝ) (W : Fin 1024 → Fin 1024 → ℝ) (c : Fin 1024 → ℝ)
    (j : Fin 1024) :
    ∃ r : ℝ, query x (fun h => (g h : EReal)) (fun h => (b h : EReal)) (fun j h => (W j h : EReal)) (fun j => (c j : EReal)) j
      = (r : EReal) := by
  choose s hs using standard_real x
  refine ⟨(∑ h, (s h * g h + b h) * W j h) + c j, ?_⟩
  unfold query
  rw [Finset.sum_congr rfl fun h _ => (by rw [hs h, ← EReal.coe_mul, ← EReal.coe_add, ← EReal.coe_mul] :
    (standard x h * (g h : EReal) + (b h : EReal)) * (W j h : EReal) = (((s h * g h + b h) * W j h : ℝ) : EReal)), sum_coe,
    ← EReal.coe_add]

end Cert.Realness

end
-- ==== Proof.Loop.lean ====
/-
  The walk over the memory, on real queries and real memory rows: after each grid point the carried values are the query,
  the running maximum, the running sum and the weighted sum of every row up to the point's last, and the last point's
  output is the residual plus the projected softmax average plus the bias.
-/
module

public import proofs.«01_k».proof.Proof.Realness

@[expose] public section

set_option maxRecDepth 16384

noncomputable section

namespace Cert.KernelIdeal.Loop

open Idealize.ShloMosaic Idealize.ShloMosaic.TcCoe Idealize.ShloMosaic.ValueIdx Idealize.SL Idealize.SL.Sem
open Cert.KernelIdeal Cert.KernelIdeal.Gen Cert.Rows Cert.Softmax
open scoped BigOperators

variable (m : (l : Loc nD τ sig) → Buf (Elt Ideal) l) (c : Dev nD)

/-- The hidden states. -/
abbrev hidden : Vec Ideal S8x1x1024 .f32 := m ((c : Thread nD τ).loc main_arg0)
/-- The output weight. -/
abbrev outWeight : Vec Ideal S1024x1024 .f32 := m ((c : Thread nD τ).loc main_arg6)
/-- The output bias. -/
abbrev outBias : Vec Ideal S1024 .f32 := m ((c : Thread nD τ).loc main_arg7)

/-- The query the kernel lays down for batch row `p`. -/
abbrev queryOf (p : Fin 8) (j : Fin 1024) : EReal :=
  query (fun h => m ((c : Thread nD τ).loc main_arg0) (ix3 p 0 h)) (fun h => m ((c : Thread nD τ).loc main_arg2) (ix1 h))
    (fun h => m ((c : Thread nD τ).loc main_arg3) (ix1 h)) (fun j h => m ((c : Thread nD τ).loc main_arg4) (ix2 j h))
    (fun j => m ((c : Thread nD τ).loc main_arg5) (ix1 j)) j

variable (qr : Fin 8 → Fin 1024 → ℝ) (μ : ℕ → Fin 1024 → ℝ)

/-- Row `k`'s score against batch row `p`'s query. -/
def scoreOf (p : Fin 8) (k : ℕ) : ℝ := ∑ h, qr p h * μ k h

/-- What the values after a point are, for batch row `p`, when the rows below `n` have been seen. -/
structure Seen (p : Fin 8) (n : ℕ)
    (s : Vec Ideal S8x1024 .f32 × Vec Ideal S8x1 .f32 × Vec Ideal S8x1 .f32 × Vec Ideal S8x1024 .f32) : Prop where
  /-- The query is kept. -/
  query : ∀ h, s.1 (ix2 p h) = ((qr p h : ℝ) : EReal)
  /-- The running sum. -/
  sum : Held (s.2.1 (ix2 p (0 : Fin 1))) (s.2.2.1 (ix2 p (0 : Fin 1))) (∑ k ∈ Finset.range n, Real.exp (scoreOf qr μ p k))
  /-- The weighted sum. -/
  weighted : ∀ h, Held (s.2.1 (ix2 p (0 : Fin 1))) (s.2.2.2 (ix2 p h))
    (∑ k ∈ Finset.range n, Real.exp (scoreOf qr μ p k) * μ k h)

variable (hmem : ∀ (k : Fin 65536) (h : Fin 1024), m ((c : Thread nD τ).loc main_arg1) (ix3 0 k h) = ((μ k.val h : ℝ) : EReal))

include hmem in
/-- One tile taken in. -/
theorem seen_tile (t : Fin cfg0.N) (p : Fin 8) (q : Vec Ideal S8x1024 .f32) (mx l : Vec Ideal S8x1 .f32)
    (acc : Vec Ideal S8x1024 .f32) (H : Seen qr μ p (4096 * t.val) (q, mx, l, acc)) :
    Seen qr μ p (4096 * (t.val + 1)) (Carried.taken m c t q mx l acc) := by
  have ht : t.val < 16 := lt_of_lt_of_eq t.isLt N_0
  have hX : ∀ (r : Fin 4096) (h : Fin 1024), iblk m c 1 t (ix2 r h) = ((μ (4096 * t.val + r.val) h : ℝ) : EReal) :=
    fun r h => (Blocks.memory_apply m c t r h ⟨4096 * t.val + r.val, by omega⟩ rfl).trans (hmem _ h)
  refine ⟨H.query, ?_, fun h => ?_⟩
  · rw [Step.range_tile]
    exact Step.tile_sum (iblk m c 1 t) q mx l p (qr p) (fun r => μ (4096 * t.val + r.val)) H.query hX H.sum
  · rw [Step.range_tile]
    exact Step.tile_weighted (iblk m c 1 t) q mx acc p (qr p) (fun r => μ (4096 * t.val + r.val)) H.query hX h H.sum
      (H.weighted h)

variable (hq : ∀ p j, queryOf m c p j = ((qr p j : ℝ) : EReal))

include hq in
/-- The query block holds the real queries. -/
theorem query_block (t : Fin cfg0.N) (p : Fin 8) (j : Fin 1024) :
    Carried.queryBlock m c t (ix2 p j) = ((qr p j : ℝ) : EReal) := by
  refine (Payloads.query_apply _ _ _ _ _ p j).trans (Eq.trans ?_ (hq p j))
  rw [Blocks.norm_scale, Blocks.norm_shift, Blocks.query_weight, Blocks.query_bias]
  exact congrArg (fun x => query x _ _ _ _ j) (funext fun h => Blocks.hidden_apply m c t p h)

include hmem hq in
/-- After each point every row up to the end of its tile has been seen. -/
theorem seen (p : Fin 8) : ∀ (n : ℕ) (hn : n < cfg0.N), Seen qr μ p (4096 * (n + 1)) (outsAt0 m c n hn).2
  | 0, hn => by
    rw [Carried.first m c ⟨0, hn⟩ (Nat.zero_mod _) (by show ¬0 % 16 = 15; decide)]
    refine seen_tile m c qr μ hmem ⟨0, hn⟩ p _ _ _ _ ⟨query_block m c qr hq ⟨0, hn⟩ p, ?_, fun h => ?_⟩
    · show Held (k0_pay4 (F := Ideal) (ix2 p (0 : Fin 1))) (k0_pay5 (F := Ideal) (ix2 p (0 : Fin 1))) _
      rw [Payloads.start_max, Payloads.start_sum]; exact held_start
    · show Held (k0_pay4 (F := Ideal) (ix2 p (0 : Fin 1))) (k0_pay6 (F := Ideal) (ix2 p h)) _
      rw [Payloads.start_max, Payloads.start_weighted]; exact held_start
  | n + 1, hn => by
    have hN : cfg0.N = 16 := N_0
    rw [Carried.later m c ⟨n + 1, hn⟩ (by show ¬(n + 1) % 16 = 0; omega) n (by omega) rfl]
    exact seen_tile m c qr μ hmem ⟨n + 1, hn⟩ p _ _ _ _ (seen p n (by omega))

/-- The softmax average of batch row `p`, at entry `h`. -/
def average (p : Fin 8) (h : Fin 1024) : ℝ :=
  (∑ k : Fin 65536, Real.exp (scoreOf qr μ p k.val) * μ k.val h) / ∑ k : Fin 65536, Real.exp (scoreOf qr μ p k.val)

/-- The sum of the exponentials is positive. -/
theorem sum_pos (p : Fin 8) : 0 < ∑ k : Fin 65536, Real.exp (scoreOf qr μ p k.val) :=
  Finset.sum_pos (fun _ _ => Real.exp_pos _) ⟨0, Finset.mem_univ _⟩

/-- The quotient the last point takes is the softmax average. -/
theorem quotient (p : Fin 8) (h : Fin 1024)
    (s : Vec Ideal S8x1024 .f32 × Vec Ideal S8x1 .f32 × Vec Ideal S8x1 .f32 × Vec Ideal S8x1024 .f32)
    (H : Seen qr μ p 65536 s) :
    Ideal.div (s.2.2.2 (ix2 p h)) (s.2.2.1 (ix2 p (0 : Fin 1))) = ((average qr μ p h : ℝ) : EReal) := by
  have hpos := sum_pos qr μ p
  have h1 := H.sum
  have h2 := H.weighted h
  rw [Finset.sum_range] at h1 h2
  rcases h1 with ⟨-, -, h0⟩ | ⟨M, hM, hs⟩
  · exact absurd h0 hpos.ne'
  · rw [hM] at h2
    rw [hs, Step.held_real h2]
    exact quotient_kernel M _ hpos

include hmem hq in
/-- The last point's output. -/
theorem out_last (t : Fin cfg0.N) (ht : t.val = 15) (p : Fin 8) (j : Fin 1024) :
    (outsAt0 m c t.val t.isLt).1 (ix2 p j)
      = hidden m c (ix3 p 0 j)
        + (∑ h, ((average qr μ p h : ℝ) : EReal) * outWeight m c (ix2 j h))
        + outBias m c (ix1 j) := by
  have H := seen m c qr μ hmem hq p t.val t.isLt
  rw [show 4096 * (t.val + 1) = 65536 by omega] at H
  rw [Carried.last m c t (by omega) (by omega), Payloads.out_apply, Blocks.hidden_apply, Blocks.output_weight,
    Blocks.output_bias]
  exact congrArg (fun f : Fin 1024 → EReal => _ + (∑ h, f h * outWeight m c (ix2 j h)) + _)
    (funext fun h => quotient qr μ p h _ H)

end Cert.KernelIdeal.Loop

end
-- ==== Proof.KernelValue.lean ====
/-
  The kernel's result. The one output block is written back after the last grid point and is the whole output array; the
  result is that array with an axis of length one put back.
-/
module

public import proofs.«01_k».proof.Proof.Loop

@[expose] public section

set_option maxRecDepth 16384

noncomputable section

namespace Cert.KernelIdeal.KernelValue

open Idealize.ShloMosaic Idealize.ShloMosaic.TcCoe Idealize.ShloMosaic.ValueIdx Idealize.SL Idealize.SL.Sem
open Cert.KernelIdeal Cert.KernelIdeal.Gen

variable (m : (l : Loc nD τ sig) → Buf (Elt Ideal) l) (ρ : Dev nD → PrngReg) (c : Dev nD)

/-- The last grid point. -/
abbrev lastPoint : Fin cfg0.N := ⟨15, lt_of_lt_of_eq (by decide) N_0.symm⟩

/-- The output array after the run: what the last point leaves. -/
def outArray : Buf (Elt Ideal) ((c : Thread nD τ).loc main_v2) := (outsAt0 m c lastPoint.val lastPoint.isLt).1

/-- What a point that writes back writes is the output array. -/
theorem written (t : Fin cfg0.N) (hf : (cfg0.win 8).flush t = true) :
    (dats m 0 c).flushed 8 t = ((cfg0.win 8).blk t).view.read (Elt Ideal) (outArray m c) := by
  have hN : cfg0.N = 16 := N_0
  have ht : t = lastPoint := Fin.ext (by have := (flush0_8 t).mp hf; have := t.isLt; show t.val = 15; omega)
  subst ht
  have hi := (Blocks.places lastPoint).2.2.2.2.2.2.2.2.2.2.2.2
  show (cfg0.win 8).cut (grid0.coords lastPoint) ((dats m 0 c).after 8 lastPoint) = _
  rw [after0_8]
  funext y
  rw [View.read_apply]
  refine congrArg (outsAt0 m c lastPoint.val lastPoint.isLt).1 (funext fun a => Fin.ext ?_)
  match a with
  | ⟨0, _⟩ => show (y 0).val = win0_8.index lastPoint (0 : Fin 2) * 8 + 1 * (y 0).val; omega
  | ⟨1, _⟩ => show (y 1).val = win0_8.index lastPoint (1 : Fin 2) * 1024 + 1 * (y 1).val; omega

/-- The last point's block is the whole array. -/
theorem covered (i : S8x1024.Idx) : i ∈ ((cfg0.win 8).blk lastPoint).view.set := by
  have hi := (Blocks.places lastPoint).2.2.2.2.2.2.2.2.2.2.2.2
  show i ∈ ((View.whole main_v2).slice (win0_8.rect lastPoint)).set
  rw [View.set_slice_whole, Rect.mem_set_unit]
  intro a
  have h0 : (i 0).val < 8 := (i 0).isLt
  have h1 : (i 1).val < 1024 := (i 1).isLt
  match a with
  | ⟨0, _⟩ =>
    show win0_8.index lastPoint (0 : Fin 2) * 8 ≤ (i 0).val ∧ (i 0).val < win0_8.index lastPoint (0 : Fin 2) * 8 + 8
    omega
  | ⟨1, _⟩ =>
    show win0_8.index lastPoint (1 : Fin 2) * 1024 ≤ (i 1).val ∧ (i 1).val < win0_8.index lastPoint (1 : Fin 2) * 1024 + 1024
    omega

/-- The output array after the run. -/
theorem array_after : (dats m 0 c).arrAt 8 cfg0.N = outArray m c :=
  (dats m 0 c).arrAt_eq_of_cover 8 _ (fun t hf => written m c t hf) fun i =>
    ⟨lastPoint, (flush0_8 lastPoint).mpr (by show 15 % 16 = 15; decide), covered i⟩

/-- The result: the output array with its middle axis put back. -/
def result : Buf (Elt Ideal) ((c : Thread nD τ).loc main_v3) :=
  shapeCast S8x1x1024 (outsAt0 m c lastPoint.val lastPoint.isLt).1 shapeCasts_S8x1024_S8x1x1024

/-- What the operations after the grid leave in the result. -/
theorem tail_result : Pipeline.afterTail₀ cfgs (dats m) 0 (V0 m) [hostOps1] c main_v3 = result m c := by
  have e : Pipeline.withArrays spec0 c (V0 m c) (fun w => (dats m 0 c).arrAt w cfg0.N) (Proc.devRef .tc main_v2)
      = outArray m c :=
    (Pipeline.withArrays_arr spec0 (by decide) c (V0 m c) _ 8).trans (array_after m c)
  show StableHlo.after hostOps1
    (Pipeline.withArrays spec0 c (V0 m c) fun w => (dats m 0 c).arrAt w cfg0.N) (Proc.devRef .tc main_v3) = _
  unfold hostOps1
  after_results_simp
  rw [e]
  rfl

/-- The kernel's run: its result, and its arguments unchanged. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono
    (fun _ h c => ⟨((h.1 c).2 main_v3 (Pipeline.mem_restRefs_of main_v3 (by decide) (by decide))).trans (tail_result m c),
      h.2 c⟩)
    (θ_run_and (run_main m ρ) (unchanged m ρ))

/-- An entry of the result, on real queries and real memory rows. -/
theorem result_apply (qr : Fin 8 → Fin 1024 → ℝ) (μ : ℕ → Fin 1024 → ℝ)
    (hmem : ∀ (k : Fin 65536) (h : Fin 1024),
      m ((c : Thread nD τ).loc main_arg1) (ix3 0 k h) = ((μ k.val h : ℝ) : EReal))
    (hq : ∀ p j, Loop.queryOf m c p j = ((qr p j : ℝ) : EReal)) (p : Fin 8) (j : Fin 1024) :
    result m c (ix3 p 0 j)
      = Loop.hidden m c (ix3 p 0 j) + (∑ h, ((Loop.average qr μ p h : ℝ) : EReal) * Loop.outWeight m c (ix2 j h))
        + Loop.outBias m c (ix1 j) := by
  refine Eq.trans ?_ (Loop.out_last m c qr μ hmem hq lastPoint rfl p j)
  unfold result
  refine shapeCast_apply _ _ _ _ ?_
  rw [Shape.rowMajor_val_two]
  refine Eq.trans ?_ (Shape.rowMajor_val_three _).symm
  show p.val * 1024 + j.val = (p.val * 1 + 0) * 1024 + j.val
  omega

end Cert.KernelIdeal.KernelValue

end
-- ==== Proof.Stages.lean ====
/-
  The reference's result, stage by stage, as functions of its arguments: the normalized hidden states, the query, the
  scores, their exponentials below the row's maximum, and the projected softmax average on top of the residual.
-/
module

public import proofs.«01_k».proof.Proof.KernelValue
public import proofs.«01_k».proof.Proof.Gen.ReferenceIdeal.Run
public import Idealize.ShloMosaic.Lib.IdealHost

@[expose] public section

set_option maxRecDepth 16384

noncomputable section

namespace Cert.ReferenceIdeal.Stages

open Idealize.ShloMosaic Idealize.ShloMosaic.TcCoe Idealize.ShloMosaic.ValueIdx
open Cert.ReferenceIdeal Cert.ReferenceIdeal.Gen

variable (x0 : Vec Ideal S8x1x1024 .f32) (x1 : Vec Ideal S1x65536x1024 .f32) (x2 x3 : Vec Ideal S1024 .f32)
  (x4 : Vec Ideal S1024x1024 .f32) (x5 : Vec Ideal S1024 .f32) (x6 : Vec Ideal S1024x1024 .f32) (x7 : Vec Ideal S1024 .f32)

/-- The zero every sum starts from. -/
abbrev zero : Vec Ideal S_ .f32 := constant (F := Ideal) S_ .f32 0x00000000#32
/-- The row length. -/
abbrev length : Vec Ideal S_ .f32 := constant (F := Ideal) S_ .f32 0x44800000#32
/-- The row length, less the zero the variance corrects it by. -/
abbrev divisor : Vec Ideal S_ .f32 := subf (F := Ideal) (φ := .f32) length (sitofp (F := Ideal) .f32 (constantI S_ 32 0#32))

/-- Each row's mean. -/
def means : Vec Ideal S8x1x1 .f32 :=
  Host.divf (F := Ideal) (φ := .f32) (broadcastInDim S8x1x1 ![0, 1] bcast_S8x1_S8x1x1_0_1 (Host.reduceAdd (F := Ideal) (φ := .f32) x0 zero reducesTo_S8x1x1024_S8x1_d2 h_S_)) (broadcastInDim S8x1x1 ![] bcast_S_S8x1x1 length)

/-- Each row less its mean. -/
def centred : Vec Ideal S8x1x1024 .f32 :=
  subf (F := Ideal) (φ := .f32) x0 (broadcastInDim S8x1x1024 ![0, 1, 2] bcast_S8x1x1_S8x1x1024_0_1_2 (means x0))

/-- Each row's variance. -/
def variances : Vec Ideal S8x1x1 .f32 :=
  select (broadcastInDim S8x1x1 ![] bcast_S_S8x1x1 (cmpf (F := Ideal) (φ := .f32) .ogt divisor zero))
    (Host.divf (F := Ideal) (φ := .f32) (broadcastInDim S8x1x1 ![0, 1] bcast_S8x1_S8x1x1_0_1 (Host.reduceAdd (F := Ideal) (φ := .f32) (mulf (F := Ideal) (φ := .f32) (centred x0) (centred x0)) zero reducesTo_S8x1x1024_S8x1_d2 h_S_)) (broadcastInDim S8x1x1 ![] bcast_S_S8x1x1 divisor))
    (broadcastInDim S8x1x1 ![] bcast_S_S8x1x1 (id (constant (F := Ideal) S_ .f32 0x7FC00000#32)))

/-- A vector along the last axis, for every row. -/
def rows (v : Vec Ideal S1024 .f32) : Vec Ideal S8x1x1024 .f32 :=
  broadcastInDim S8x1x1024 ![0, 1, 2] bcast_S1x1x1024_S8x1x1024_0_1_2 (broadcastInDim S1x1x1024 ![2] bcast_S1024_S1x1x1024_2 v)

/-- The normalized hidden states. -/
def normalized : Vec Ideal S8x1x1024 .f32 :=
  addf (F := Ideal) (φ := .f32) (mulf (F := Ideal) (φ := .f32) (Host.divf (F := Ideal) (φ := .f32) (centred x0) (broadcastInDim S8x1x1024 ![0, 1, 2] bcast_S8x1x1_S8x1x1024_0_1_2 (Host.sqrt (F := Ideal) (φ := .f32) (addf (F := Ideal) (φ := .f32) (variances x0) (broadcastInDim S8x1x1 ![] bcast_S_S8x1x1 (constant (F := Ideal) S_ .f32 0x2B8CBCCC#32)))))) (rows x2)) (rows x3)

/-- The queries. -/
def queries : Vec Ideal S8x1x1024 .f32 :=
  addf (F := Ideal) (φ := .f32) (Host.dotGeneral (F := Ideal) (φ₁ := .f32) (φ₂ := .f32) dot_S8x1x1024_S1024x1024_S8x1x1024_2_0_01_1_n_n none (normalized x0 x2 x3) (transpose S1024x1024 [1, 0] x4 transposes_S1024x1024_S1024x1024_1_0)) (rows x5)

/-- The memory, its leading axis dropped. -/
def memory : Vec Ideal S65536x1024 .f32 := shapeCast S65536x1024 x1 shapeCasts_S1x65536x1024_S65536x1024

/-- The scores of queries `q` against memory rows `y`. -/
def scores (q : Vec Ideal S8x1x1024 .f32) (y : Vec Ideal S65536x1024 .f32) : Vec Ideal S8x1x65536 .f32 :=
  Host.dotGeneral (F := Ideal) (φ₁ := .f32) (φ₂ := .f32) dot_S8x1x1024_S65536x1024_S8x1x65536_2_1_01_0_n_n none q y

/-- The greatest score of each row. -/
def greatest (s : Vec Ideal S8x1x65536 .f32) : Vec Ideal S8x1 .f32 :=
  maximumf (F := Ideal) (φ := .f32) (broadcastInDim S8x1 ![] bcast_S_S8x1 (constant (F := Ideal) S_ .f32 0xFF800000#32))
    (Host.reduce (FloatOps.maximumf (F := Ideal) (φ := .f32)) s (constant (F := Ideal) S_ .f32 0xFF800000#32) reducesTo_S8x1x65536_S8x1_d2 h_S_)

/-- The exponentials of the scores below the row's greatest. -/
def exponentials (s : Vec Ideal S8x1x65536 .f32) : Vec Ideal S8x1x65536 .f32 :=
  Host.exp (F := Ideal) (φ := .f32) (subf (F := Ideal) (φ := .f32) s (broadcastInDim S8x1x65536 ![0, 1, 2] bcast_S8x1x1_S8x1x65536_0_1_2 (broadcastInDim S8x1x1 ![0, 1] bcast_S8x1_S8x1x1_0_1 (greatest s))))

/-- The softmax weights, from the exponentials. -/
def weights (e : Vec Ideal S8x1x65536 .f32) : Vec Ideal S8x1x65536 .f32 :=
  Host.divf (F := Ideal) (φ := .f32) e (broadcastInDim S8x1x65536 ![0, 1, 2] bcast_S8x1x1_S8x1x65536_0_1_2 (broadcastInDim S8x1x1 ![0, 1] bcast_S8x1_S8x1x1_0_1 (Host.reduceAdd (F := Ideal) (φ := .f32) e zero reducesTo_S8x1x65536_S8x1_d2 h_S_)))

/-- The weighted memory rows. -/
def mixed (w : Vec Ideal S8x1x65536 .f32) (y : Vec Ideal S65536x1024 .f32) : Vec Ideal S8x1x1024 .f32 :=
  Host.dotGeneral (F := Ideal) (φ₁ := .f32) (φ₂ := .f32) dot_S8x1x65536_S65536x1024_S8x1x1024_2_0_01_1_n_n none w y

/-- The result. -/
def result : Vec Ideal S8x1x1024 .f32 :=
  addf (F := Ideal) (φ := .f32) x0 (addf (F := Ideal) (φ := .f32)
    (Host.dotGeneral (F := Ideal) (φ₁ := .f32) (φ₂ := .f32) dot_S8x1x1024_S1024x1024_S8x1x1024_2_0_01_1_n_n none
      (mixed (weights (exponentials (scores (queries x0 x2 x3 x4 x5) (memory x1)))) (memory x1))
      (transpose S1024x1024 [1, 0] x6 transposes_S1024x1024_S1024x1024_1_0)) (rows x7))

/-- The program's result is the last stage. -/
theorem result_eq (m : (l : Loc nD τ sig) → Buf (Elt Ideal) l) (c : Dev nD) :
    Value.res_out0 m c
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Value.res_out0 Value.res_main_v112
  rfl

end Cert.ReferenceIdeal.Stages

end
-- ==== Proof.StageReads.lean ====
/-
  The reference's stages at an entry: each is the row function of the same name, on the entries of the arguments.
-/
module

public import proofs.«01_k».proof.Proof.Stages

@[expose] public section

set_option maxRecDepth 16384

noncomputable section

namespace Cert.ReferenceIdeal.Stages

open Idealize.ShloMosaic Idealize.ShloMosaic.TcCoe Idealize.ShloMosaic.ValueIdx
open Cert.ReferenceIdeal Cert.ReferenceIdeal.Gen Cert.Rows
open scoped BigOperators

/-! ## Spreading -/

/-- One value a row, spread along the row. -/
theorem along_1024 (v : Vec Ideal S8x1x1 .f32) (p : Fin 8) (j : Fin 1024) :
    broadcastInDim S8x1x1024 ![0, 1, 2] bcast_S8x1x1_S8x1x1024_0_1_2 v (ix3 p 0 j) = v (ix3 p 0 0) :=
  broadcastInDim_apply _ _ v _ _ fun a => by fin_cases a <;> rfl

/-- One value a row, spread along a row of scores. -/
theorem along_65536 (v : Vec Ideal S8x1x1 .f32) (p : Fin 8) (j : Fin 65536) :
    broadcastInDim S8x1x65536 ![0, 1, 2] bcast_S8x1x1_S8x1x65536_0_1_2 v (ix3 p 0 j) = v (ix3 p 0 0) :=
  broadcastInDim_apply _ _ v _ _ fun a => by fin_cases a <;> rfl

/-- One value a row, with its last axis put back. -/
theorem axis_back (v : Vec Ideal S8x1 .f32) (p : Fin 8) :
    broadcastInDim S8x1x1 ![0, 1] bcast_S8x1_S8x1x1_0_1 v (ix3 p 0 0) = v (ix2 p 0) :=
  broadcastInDim_apply _ _ v _ _ fun a => by fin_cases a <;> rfl

/-- A vector along the last axis, at an entry. -/
theorem rows_apply (v : Vec Ideal S1024 .f32) (p : Fin 8) (j : Fin 1024) : rows v (ix3 p 0 j) = v (ix1 j) := by
  unfold rows
  rw [broadcastInDim_apply _ _ _ (ix3 p 0 j) (ix3 0 0 j) fun a => by fin_cases a <;> rfl]
  exact broadcastInDim_apply _ _ v _ _ fun a => by fin_cases a; rfl

/-! ## Sums, maxima and products -/

/-- A row's reduced index with the last coordinate put back. -/
theorem lift_last {n : ℕ} (h : (⟨3, ![8, 1, n]⟩ : Shape).Reduces [2] ⟨2, ![8, 1]⟩) (p : Fin 8) (k : Fin n) :
    h.lift (ix2 p 0) k = ix3 p 0 k := by
  funext a; apply Fin.ext
  fin_cases a <;> rfl

/-- The host's sum along a row. -/
theorem host_sum {n : ℕ} (x : FVec Ideal ⟨3, ![8, 1, n]⟩ .f32) (h' : (⟨3, ![8, 1, n]⟩ : Shape).ReducesTo [2] ⟨2, ![8, 1]⟩)
    (h : (⟨3, ![8, 1, n]⟩ : Shape).Reduces [2] ⟨2, ![8, 1]⟩) (p : Fin 8) :
    Host.reduceAdd (F := Ideal) (φ := .f32) x zero h' h_S_ (ix2 p 0) = ∑ k : Fin n, x (ix3 p 0 k) := by
  refine (Ideal.hostReduceAdd_single h' h x _ _).trans ?_
  rw [show zero (Shape.Idx.first h_S_) = (0 : EReal) from Ideal.ofBits_zero_f32, zero_add]
  exact Finset.sum_congr rfl fun k _ => congrArg x (lift_last h p k)

/-- The greatest score of a row. -/
theorem greatest_apply (s : Vec Ideal S8x1x65536 .f32) (p : Fin 8) :
    greatest s (ix2 p 0) = (Finset.univ : Finset (Fin 65536)).fold max ⊥ fun k => s (ix3 p 0 k) := by
  have h : S8x1x65536.Reduces [2] S8x1 := by decide
  have e : Host.reduce (max : EReal → EReal → EReal) s (constant (F := Ideal) S_ .f32 0xFF800000#32)
      reducesTo_S8x1x65536_S8x1_d2 h_S_ (ix2 p 0) = (Finset.univ : Finset (Fin 65536)).fold max ⊥ fun k => s (ix3 p 0 k) := by
    refine (Host.reduce_eq_fold_single max s _ _ h _ _).trans ?_
    rw [show constant (F := Ideal) S_ .f32 0xFF800000#32 (Shape.Idx.first h_S_) = (⊥ : EReal) from Softmax.word_bot]
    exact congrArg (Finset.fold max _ · Finset.univ) (funext fun k => congrArg s (lift_last h p k))
  unfold greatest
  rw [maximumf_apply, broadcastInDim_scalar_apply]
  refine (congrArg₂ max Softmax.word_bot e).trans ?_
  exact max_bot_left _

/-- The product with a matrix's columns. -/
theorem product_1024 (x : Vec Ideal S8x1x1024 .f32) (y : Vec Ideal S1024x1024 .f32) (p : Fin 8) (j : Fin 1024) :
    Host.dotGeneral (F := Ideal) (φ₁ := .f32) (φ₂ := .f32) dot_S8x1x1024_S1024x1024_S8x1x1024_2_0_01_1_n_n none x y (ix3 p 0 j)
      = ∑ h : Fin 1024, x (ix3 p 0 h) * y (ix2 h j) := by
  refine (Ideal.dotGeneral_apply _ none .single x y _).trans ?_
  rw [← (contrEquiv1 dot_S8x1x1024_S1024x1024_S8x1x1024_2_0_01_1_n_n 1024 rfl rfl).symm.sum_comp]
  refine Finset.sum_congr rfl fun h _ => congrArg₂ (· * ·) (congrArg x ?_) (congrArg y ?_)
  · funext a; apply Fin.ext; fin_cases a <;> rfl
  · funext a; apply Fin.ext; fin_cases a <;> rfl

/-- The scores at an entry. -/
theorem scores_apply (q : Vec Ideal S8x1x1024 .f32) (y : Vec Ideal S65536x1024 .f32) (p : Fin 8) (k : Fin 65536) :
    scores q y (ix3 p 0 k) = score (fun h => q (ix3 p 0 h)) fun h => y (ix2 k h) := by
  unfold scores score
  refine (Ideal.dotGeneral_apply _ none .single q y _).trans ?_
  rw [← (contrEquiv1 dot_S8x1x1024_S65536x1024_S8x1x65536_2_1_01_0_n_n 1024 rfl rfl).symm.sum_comp]
  refine Finset.sum_congr rfl fun h _ => congrArg₂ (· * ·) (congrArg q ?_) (congrArg y ?_)
  · funext a; apply Fin.ext; fin_cases a <;> rfl
  · funext a; apply Fin.ext; fin_cases a <;> rfl

/-- The weighted memory rows at an entry. -/
theorem mixed_apply (w : Vec Ideal S8x1x65536 .f32) (y : Vec Ideal S65536x1024 .f32) (p : Fin 8) (h : Fin 1024) :
    mixed w y (ix3 p 0 h) = ∑ k : Fin 65536, w (ix3 p 0 k) * y (ix2 k h) := by
  unfold mixed
  refine (Ideal.dotGeneral_apply _ none .single w y _).trans ?_
  rw [← (contrEquiv1 dot_S8x1x65536_S65536x1024_S8x1x1024_2_0_01_1_n_n 65536 rfl rfl).symm.sum_comp]
  refine Finset.sum_congr rfl fun k _ => congrArg₂ (· * ·) (congrArg w ?_) (congrArg y ?_)
  · funext a; apply Fin.ext; fin_cases a <;> rfl
  · funext a; apply Fin.ext; fin_cases a <;> rfl

/-! ## The stages -/

variable (x0 : Vec Ideal S8x1x1024 .f32) (x1 : Vec Ideal S1x65536x1024 .f32) (x2 x3 : Vec Ideal S1024 .f32)
  (x4 : Vec Ideal S1024x1024 .f32) (x5 : Vec Ideal S1024 .f32) (x6 : Vec Ideal S1024x1024 .f32) (x7 : Vec Ideal S1024 .f32)

/-- A row's mean. -/
theorem means_apply (p : Fin 8) : means x0 (ix3 p 0 0) = mean fun h => x0 (ix3 p 0 h) := by
  unfold means mean
  show Ideal.div _ _ = _
  rw [broadcastInDim_scalar_apply, axis_back, host_sum x0 _ (by decide)]
  rfl

/-- A row less its mean. -/
theorem centred_apply (p : Fin 8) (h : Fin 1024) :
    centred x0 (ix3 p 0 h) = x0 (ix3 p 0 h) - mean fun h => x0 (ix3 p 0 h) := by
  unfold centred
  rw [subf_apply, along_1024, means_apply]

/-- The corrected row length is the row length. -/
theorem divisor_apply : divisor ix0 = len := by
  show len - (((0#32).toInt : ℝ) : EReal) = len
  simp

/-- The row length is positive. -/
theorem divisor_positive : cmpf (F := Ideal) (φ := .f32) .ogt divisor zero ix0 = 1#1 := by
  show Ideal.cmp .ogt (divisor ix0) (Ideal.ofBits .f32 0x00000000#32) = 1#1
  rw [divisor_apply, Ideal.ofBits_zero_f32, Realness.len_real]
  have : (0 : EReal) < ((1024 : ℝ) : EReal) := EReal.coe_pos.mpr (by norm_num)
  simp [Ideal.cmp, this]

/-- A row's variance. -/
theorem variances_apply (p : Fin 8) : variances x0 (ix3 p 0 0) = variance fun h => x0 (ix3 p 0 h) := by
  unfold variances variance
  rw [select_apply, broadcastInDim_scalar_apply, divisor_positive, select_one]
  show Ideal.div _ _ = _
  rw [broadcastInDim_scalar_apply, axis_back, host_sum _ _ (by decide), divisor_apply]
  refine congrArg (Ideal.div · _) (Finset.sum_congr rfl fun h _ => ?_)
  rw [mulf_apply, centred_apply]

/-- The normalized hidden states. -/
theorem normalized_apply (p : Fin 8) (h : Fin 1024) :
    normalized x0 x2 x3 (ix3 p 0 h) = standard (fun h => x0 (ix3 p 0 h)) h * x2 (ix1 h) + x3 (ix1 h) := by
  unfold normalized standard
  rw [addf_apply, mulf_apply, rows_apply, rows_apply]
  refine congrArg (· * _ + _) ?_
  show Ideal.div _ _ = _
  rw [centred_apply, along_1024]
  refine congrArg (Ideal.div _) ?_
  show Ideal.sqrt _ = _
  rw [addf_apply, variances_apply, broadcastInDim_scalar_apply]
  rfl

/-- The queries. -/
theorem queries_apply (p : Fin 8) (j : Fin 1024) :
    queries x0 x2 x3 x4 x5 (ix3 p 0 j)
      = query (fun h => x0 (ix3 p 0 h)) (fun h => x2 (ix1 h)) (fun h => x3 (ix1 h)) (fun j h => x4 (ix2 j h))
          (fun j => x5 (ix1 j)) j := by
  unfold queries query
  rw [addf_apply, rows_apply, product_1024]
  refine congrArg (· + _) (Finset.sum_congr rfl fun h _ => ?_)
  rw [normalized_apply, transpose_ix2_apply]

/-- The memory at an entry. -/
theorem memory_apply (k : Fin 65536) (h : Fin 1024) : memory x1 (ix2 k h) = x1 (ix3 0 k h) := by
  unfold memory
  exact shapeCast_1ab_ab_apply x1 _ k h

/-- An exponential. -/
theorem exponentials_apply (s : Vec Ideal S8x1x65536 .f32) (p : Fin 8) (k : Fin 65536) :
    exponentials s (ix3 p 0 k) = Ideal.exp (s (ix3 p 0 k) - greatest s (ix2 p 0)) := by
  unfold exponentials
  show Ideal.exp _ = _
  rw [subf_apply, along_65536, axis_back]

/-- A softmax weight. -/
theorem weights_apply (e : Vec Ideal S8x1x65536 .f32) (p : Fin 8) (k : Fin 65536) :
    weights e (ix3 p 0 k) = Ideal.div (e (ix3 p 0 k)) (∑ i, e (ix3 p 0 i)) := by
  unfold weights
  rw [hostDivf_apply, along_65536, axis_back]
  exact congrArg (Ideal.div _) (host_sum e reducesTo_S8x1x65536_S8x1_d2 (by decide) p)

/-- The result at an entry. -/
theorem result_apply (p : Fin 8) (j : Fin 1024) :
    result x0 x1 x2 x3 x4 x5 x6 x7 (ix3 p 0 j)
      = x0 (ix3 p 0 j) + ((∑ h, mixed (weights (exponentials (scores (queries x0 x2 x3 x4 x5) (memory x1)))) (memory x1)
          (ix3 p 0 h) * x6 (ix2 j h)) + x7 (ix1 j)) := by
  unfold result
  rw [addf_apply, addf_apply, rows_apply, product_1024]
  refine congrArg (fun s : EReal => x0 (ix3 p 0 j) + (s + x7 (ix1 j))) (Finset.sum_congr rfl fun h _ => ?_)
  rw [transpose_ix2_apply]

end Cert.ReferenceIdeal.Stages

end
-- ==== Proof.Equation.lean ====
/-
  Kernel and reference agree. With the memory, the norm's scale and shift, and the query's weight and bias real, the
  queries are real, and on both sides each output entry is the residual plus the projected softmax average plus the bias.
-/
module

public import proofs.«01_k».proof.Proof.StageReads

@[expose] public section

set_option maxRecDepth 16384

noncomputable section

namespace Cert.Equation

open Idealize.ShloMosaic Idealize.ShloMosaic.TcCoe Idealize.ShloMosaic.ValueIdx
open Cert.Rows Cert.Softmax Cert.KernelIdeal
open scoped BigOperators

section Reference

open Cert.ReferenceIdeal.Stages

variable (qr : Fin 8 → Fin 1024 → ℝ) (μ : ℕ → Fin 1024 → ℝ) (q : Vec Ideal S8x1x1024 .f32)
  (y : Vec Ideal S65536x1024 .f32) (hq : ∀ p h, q (ix3 p 0 h) = ((qr p h : ℝ) : EReal))
  (hy : ∀ k h, y (ix2 k h) = ((μ k.val h : ℝ) : EReal))

include hq hy

/-- The reference's scores are real. -/
theorem scores_real (p : Fin 8) (k : Fin 65536) :
    scores q y (ix3 p 0 k) = ((Loop.scoreOf qr μ p k.val : ℝ) : EReal) := by
  rw [scores_apply, funext (hq p), funext (hy k), Step.score_real]
  rfl

/-- The reference's softmax average. -/
theorem mixed_real (p : Fin 8) (h : Fin 1024) :
    mixed (weights (exponentials (scores q y))) y (ix3 p 0 h) = ((Loop.average qr μ p h : ℝ) : EReal) := by
  obtain ⟨M, hM⟩ := fold_max_real (n := 65535) fun k => Loop.scoreOf qr μ p k.val
  have hg : greatest (scores q y) (ix2 p 0) = (M : EReal) := by
    rw [greatest_apply, funext (scores_real qr μ q y hq hy p)]
    exact hM
  have he : ∀ k, exponentials (scores q y) (ix3 p 0 k)
      = Ideal.exp (((Loop.scoreOf qr μ p k.val : ℝ) : EReal) - (M : EReal)) := fun k => by
    rw [exponentials_apply, hg, scores_real qr μ q y hq hy]
  refine (mixed_apply _ _ p h).trans (Eq.trans ?_
    (softmax_row (fun k : Fin 65536 => Loop.scoreOf qr μ p k.val) (fun k => μ k.val h) M (Loop.sum_pos qr μ p)))
  refine Finset.sum_congr rfl fun k _ => ?_
  rw [weights_apply, hy, he, Finset.sum_congr rfl fun i _ => he i]

end Reference

variable (m : (l : Loc nD τ sig) → Buf (Elt Ideal) l) (c : Dev nD)

/-- The two results agree, entry by entry, when the arguments the scores are made of are real. -/
theorem results_agree (x0 : Vec Ideal S8x1x1024 .f32) (x1 : Vec Ideal S1x65536x1024 .f32) (x2 x3 : Vec Ideal S1024 .f32)
    (x4 : Vec Ideal S1024x1024 .f32) (x5 : Vec Ideal S1024 .f32) (x6 : Vec Ideal S1024x1024 .f32) (x7 : Vec Ideal S1024 .f32)
    (e0 : m ((c : Thread nD τ).loc main_arg0) = x0) (e1 : m ((c : Thread nD τ).loc main_arg1) = x1)
    (e2 : m ((c : Thread nD τ).loc main_arg2) = x2) (e3 : m ((c : Thread nD τ).loc main_arg3) = x3)
    (e4 : m ((c : Thread nD τ).loc main_arg4) = x4) (e5 : m ((c : Thread nD τ).loc main_arg5) = x5)
    (e6 : m ((c : Thread nD τ).loc main_arg6) = x6) (e7 : m ((c : Thread nD τ).loc main_arg7) = x7)
    (r1 : ∀ i, ∃ r : ℝ, x1 i = (r : EReal)) (r2 : ∀ i, ∃ r : ℝ, x2 i = (r : EReal)) (r3 : ∀ i, ∃ r : ℝ, x3 i = (r : EReal))
    (r4 : ∀ i, ∃ r : ℝ, x4 i = (r : EReal)) (r5 : ∀ i, ∃ r : ℝ, x5 i = (r : EReal)) :
    KernelValue.result m c = Cert.ReferenceIdeal.Stages.result x0 x1 x2 x3 x4 x5 x6 x7 := by
  choose y1 h1 using r1
  choose y2 h2 using r2
  choose y3 h3 using r3
  choose y4 h4 using r4
  choose y5 h5 using r5
  have hquery : ∀ (p : Fin 8) (j : Fin 1024), ∃ r : ℝ,
      query (fun h => x0 (ix3 p 0 h)) (fun h => x2 (ix1 h)) (fun h => x3 (ix1 h)) (fun j h => x4 (ix2 j h))
        (fun j => x5 (ix1 j)) j = (r : EReal) := fun p j => by
    simp only [h2, h3, h4, h5]
    exact Realness.query_real _ _ _ (fun j h => y4 (ix2 j h)) _ j
  choose qr hqr using hquery
  let μ : ℕ → Fin 1024 → ℝ := fun k h => if hk : k < 65536 then y1 (ix3 0 ⟨k, hk⟩ h) else 0
  have hμ : ∀ (k : Fin 65536) (h : Fin 1024), x1 (ix3 0 k h) = ((μ k.val h : ℝ) : EReal) := fun k h => by
    have e : μ k.val h = y1 (ix3 0 k h) := dif_pos k.isLt
    rw [h1, e]
  funext i
  obtain ⟨p, z, j, rfl⟩ : ∃ (p : Fin 8) (z : Fin 1) (j : Fin 1024), i = ix3 p z j := ⟨i 0, i 1, i 2, eq_ix3 i⟩
  obtain rfl : z = 0 := Subsingleton.elim _ _
  subst e0 e1 e2 e3 e4 e5 e6 e7
  refine (KernelValue.result_apply m c qr μ hμ hqr p j).trans ?_
  rw [Cert.ReferenceIdeal.Stages.result_apply, add_assoc]
  refine congrArg (fun s : EReal => Loop.hidden m c (ix3 p 0 j) + (s + Loop.outBias m c (ix1 j)))
    (Finset.sum_congr rfl fun h _ => congrArg (· * Loop.outWeight m c (ix2 j h)) ?_)
  exact (mixed_real qr μ _ _ (fun p h => (Cert.ReferenceIdeal.Stages.queries_apply _ _ _ _ _ p h).trans (hqr p h))
    (fun k h => (Cert.ReferenceIdeal.Stages.memory_apply _ k h).trans (hμ k h)) p h).symm

end Cert.Equation

end
-- ==== Proof.Finite.lean ====
/-
  What the precondition says: an array whose absolute values all lie below infinity holds only real numbers.
-/
module

public import proofs.«01_k».proof.Proof.Equation
public import proofs.«01_k».proof.Defs

@[expose] public section

set_option maxRecDepth 16384

noncomputable section

namespace Cert.Finite

open Idealize.ShloMosaic Idealize.ShloMosaic.TcCoe Idealize.ShloMosaic.ValueIdx
open Cert.KernelIdeal

/-- The shape facts the precondition's text takes. -/
theorem facts : Cert.Pre_finite.Facts where
  bcast_S_S1x65536x1024 := by decide
  bcast_S_S1024 := by decide
  bcast_S_S1024x1024 := by decide

/-- The word the precondition compares with is infinity. -/
theorem word_top : Ideal.ofBits .f32 0x7F800000#32 = (⊤ : EReal) := by simp [Ideal.ofBits, Ideal.ieee]

/-- A number whose absolute value is below infinity is real. -/
theorem real_of_below (x : EReal) (h : Ideal.cmp .olt (max x (-x)) ⊤ = 1#1) : ∃ r : ℝ, x = (r : EReal) := by
  have hlt : max x (-x) < ⊤ := by
    by_contra hn
    have : Ideal.cmp .olt (max x (-x)) ⊤ = 0#1 := by simp only [Ideal.cmp, hn, decide_false]; rfl
    rw [this] at h
    exact absurd h (by decide)
  refine Realness.real_of_ne (fun e => ?_) fun e => ?_
  · rw [e] at hlt; exact absurd hlt (by simp)
  · rw [e] at hlt; exact absurd hlt (by simp)

/-- An array passing the precondition's test is real. -/
theorem array_real {s : Shape} (x : FVec Ideal s .f32) (h : (⟨0, ![]⟩ : Shape).BroadcastsInDim s (![] : Fin 0 → Fin s.rank))
    (e : cmpf (F := Ideal) (φ := .f32) .olt (Host.absf (F := Ideal) (φ := .f32) x)
      (broadcastInDim (s := ⟨0, ![]⟩) s ![] h (constant (F := Ideal) ⟨0, ![]⟩ .f32 0x7F800000#32)) = fun _ => 1#1) (i : s.Idx) :
    ∃ r : ℝ, x i = (r : EReal) := by
  refine real_of_below (x i) (Eq.trans ?_ (congrFun e i))
  show _ = Ideal.cmp .olt (max (x i) (-(x i))) (broadcastInDim (s := ⟨0, ![]⟩) s ![] h _ i)
  rw [broadcastInDim_scalar_apply]
  exact congrArg (Ideal.cmp .olt _) word_top.symm

variable [Cert.Pre_finite.Facts] (m : (l : Loc nD τ sig) → Buf (Elt Ideal) l) (c : Dev nD)

/-- The arrays the scores are made of are real. -/
theorem arrays_real (h : Cert.Pre_KernelIdeal_finite m) :
    (∀ i, ∃ r : ℝ, (m ((c.tc : Thread nD τ).loc main_arg1) : Vec Ideal S1x65536x1024 .f32) i = (r : EReal))
    ∧ (∀ i, ∃ r : ℝ, (m ((c.tc : Thread nD τ).loc main_arg2) : Vec Ideal S1024 .f32) i = (r : EReal))
    ∧ (∀ i, ∃ r : ℝ, (m ((c.tc : Thread nD τ).loc main_arg3) : Vec Ideal S1024 .f32) i = (r : EReal))
    ∧ (∀ i, ∃ r : ℝ, (m ((c.tc : Thread nD τ).loc main_arg4) : Vec Ideal S1024x1024 .f32) i = (r : EReal))
    ∧ ∀ i, ∃ r : ℝ, (m ((c.tc : Thread nD τ).loc main_arg5) : Vec Ideal S1024 .f32) i = (r : EReal) := by
  obtain ⟨h1, h2, h3, h4, h5⟩ := h c
  exact ⟨array_real _ _ h1, array_real _ _ h2, array_real _ _ h3, array_real _ _ h4, array_real _ _ h5⟩

end Cert.Finite

end
-- ==== Proof.lean ====
/-
  The proof of `Cert.Claim`: the programs run, leave their arguments alone and end with no counter raised; the kernel and
  its idealization are one text; and over the extended reals the kernel's result is the reference's.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Finite
public import Idealize.ShloMosaic.Lib.Quiescent

@[expose] public section

noncomputable section

namespace Cert.Proof

open Idealize.ShloMosaic Idealize.SL.Sem

/-- The reference leaves its arguments alone, and it has no counter to raise. -/
theorem reference_frame : quiescent_ReferenceIdeal (hReferenceIdeal := Cert.ReferenceIdeal.Gen.facts) := fun m g _ =>
  (θ_run (Cert.ReferenceIdeal.defs (F := Ideal)) _ _).mono
    (fun r h => ⟨fun c => (h c).2, sem_eq_zero_of_no_sems (by decide) r.2⟩)
    (Cert.ReferenceIdeal.Value.run m g)

/-- Where the scores' arrays are real, the kernel and the reference end with one result. -/
theorem same_result :
    algebraic_KernelIdeal_ReferenceIdeal_pre_finite (hKernelIdeal := Cert.KernelIdeal.Gen.facts)
      (hReferenceIdeal := Cert.ReferenceIdeal.Gen.facts) (hPre_finite := Cert.Finite.facts) := by
  intro m g m' g' hreal hargs
  refine ⟨fun c => Cert.KernelIdeal.KernelValue.result m c, Cert.KernelIdeal.KernelValue.run m g, ?_⟩
  refine (θ_run (Cert.ReferenceIdeal.defs (F := Ideal)) _ _).mono (fun r h c => ⟨(h c).1.trans ?_, (h c).2⟩)
    (Cert.ReferenceIdeal.Value.run m' g')
  obtain ⟨e0, e1, e2, e3, e4, e5, e6, e7⟩ := hargs c
  haveI := Cert.Finite.facts
  obtain ⟨r1, r2, r3, r4, r5⟩ := Cert.Finite.arrays_real m c hreal
  refine (Cert.ReferenceIdeal.Stages.result_eq m' c).trans ?_
  rw [e0, e1, e2, e3, e4, e5, e6, e7]
  exact (Cert.Equation.results_agree m c _ _ _ _ _ _ _ _ rfl rfl rfl rfl rfl rfl rfl rfl r1 r2 r3 r4 r5).symm

theorem claim : Cert.Claim :=
  ⟨Cert.Kernel.Gen.facts, Cert.KernelIdeal.Gen.facts, Cert.ReferenceIdeal.Gen.facts, Cert.Finite.facts,
    fun m g _ => Cert.Kernel.Gen.frame m g, fun m g _ => Cert.KernelIdeal.Gen.frame m g,
    fun m g _ => Cert.KernelIdeal.Gen.frame m g, reference_frame, fun m g _ => reference_frame m g trivial,
    trivial, same_result⟩

end Cert.Proof

end
